-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "qscale" .f32 0x3E38AA3B#32 ((8⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  IdealRules.named_const.Statement Cert.Kernel6Ideal.κ "qscale" .f32 0x3E38AA3B#32 ((8⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)) (v5 : (c : Dev Cert.Kernel6Ideal.nD) → Buf (Elt Ideal) ((c.tc : Thread Cert.Kernel6Ideal.nD Cert.Kernel6Ideal.τ).loc Cert.Kernel6Ideal.main_v2_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_v2_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_v27) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v23_0)) (v1 : (c : Dev Cert.Kernel8Ideal.nD) → Buf (Elt Ideal) ((c.tc : Thread Cert.Kernel8Ideal.nD Cert.Kernel8Ideal.τ).loc Cert.Kernel8Ideal.main_v23_1)) (v2 : (c : Dev Cert.Kernel8Ideal.nD) → Buf (Elt Ideal) ((c.tc : Thread Cert.Kernel8Ideal.nD Cert.Kernel8Ideal.τ).loc Cert.Kernel8Ideal.main_v23_2)) (v3 : (c : Dev Cert.Kernel8Ideal.nD) → Buf (Elt Ideal) ((c.tc : Thread Cert.Kernel8Ideal.nD Cert.Kernel8Ideal.τ).loc Cert.Kernel8Ideal.main_v23_3)) (v4 : (c : Dev Cert.Kernel8Ideal.nD) → Buf (Elt Ideal) ((c.tc : Thread Cert.Kernel8Ideal.nD Cert.Kernel8Ideal.τ).loc Cert.Kernel8Ideal.main_v23_5)) (v5 : (c : Dev Cert.Kernel8Ideal.nD) → Buf (Elt Ideal) ((c.tc : Thread Cert.Kernel8Ideal.nD Cert.Kernel8Ideal.τ).loc Cert.Kernel8Ideal.main_v23_7)) (v6 : (c : Dev Cert.Kernel8Ideal.nD) → Buf (Elt Ideal) ((c.tc : Thread Cert.Kernel8Ideal.nD Cert.Kernel8Ideal.τ).loc Cert.Kernel8Ideal.main_v23_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_0) = v0 c
          ∧ r.2.mem ((c.tc : Thread Cert.Kernel8Ideal.nD Cert.Kernel8Ideal.τ).loc Cert.Kernel8Ideal.main_v23_1) = v1 c
          ∧ r.2.mem ((c.tc : Thread Cert.Kernel8Ideal.nD Cert.Kernel8Ideal.τ).loc Cert.Kernel8Ideal.main_v23_2) = v2 c
          ∧ r.2.mem ((c.tc : Thread Cert.Kernel8Ideal.nD Cert.Kernel8Ideal.τ).loc Cert.Kernel8Ideal.main_v23_3) = v3 c
          ∧ r.2.mem ((c.tc : Thread Cert.Kernel8Ideal.nD Cert.Kernel8Ideal.τ).loc Cert.Kernel8Ideal.main_v23_5) = v4 c
          ∧ r.2.mem ((c.tc : Thread Cert.Kernel8Ideal.nD Cert.Kernel8Ideal.τ).loc Cert.Kernel8Ideal.main_v23_7) = v5 c
          ∧ r.2.mem ((c.tc : Thread Cert.Kernel8Ideal.nD Cert.Kernel8Ideal.τ).loc Cert.Kernel8Ideal.main_v23_8) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v70) = v0 c
          ∧ r.2.mem ((c.tc : Thread Cert.Reference8Ideal.nD Cert.Reference8Ideal.τ).loc Cert.Reference8Ideal.main_v73) = v1 c
          ∧ r.2.mem ((c.tc : Thread Cert.Reference8Ideal.nD Cert.Reference8Ideal.τ).loc Cert.Reference8Ideal.main_v74) = v2 c
          ∧ r.2.mem ((c.tc : Thread Cert.Reference8Ideal.nD Cert.Reference8Ideal.τ).loc Cert.Reference8Ideal.main_v75) = v3 c
          ∧ r.2.mem ((c.tc : Thread Cert.Reference8Ideal.nD Cert.Reference8Ideal.τ).loc Cert.Reference8Ideal.main_v76) = v4 c
          ∧ r.2.mem ((c.tc : Thread Cert.Reference8Ideal.nD Cert.Reference8Ideal.τ).loc Cert.Reference8Ideal.main_v78) = v5 c
          ∧ r.2.mem ((c.tc : Thread Cert.Reference8Ideal.nD Cert.Reference8Ideal.τ).loc Cert.Reference8Ideal.main_v79) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite4.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1024 .f32) (main_arg5 : FVec F S1024 .f32) (main_arg6 : FVec F S16384x256 .f32) (main_arg7 : FVec F S1024x1024 .f32) (main_arg8 : FVec F S1024 .f32) (main_arg9 : FVec F S256x1024 .f32) (main_arg10 : FVec F S1024x1024 .f32) : IVec S16384x1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Pre_finite7.lean ====
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S1024x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024x256 .f32) (main_arg7 : FVec F S1024x1024 .f32) (main_arg8 : FVec F S1024 .f32) (main_arg9 : FVec F S256x1024 .f32) (main_arg10 : FVec F S1024x1024 .f32) : IVec S1024x1024 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  main_v2
-- ==== Kernel.lean ====
abbrev S2x8192x1024 : Shape := ⟨3, ![2, 8192, 1024]⟩
abbrev S16 : Shape := ⟨1, ![16]⟩
abbrev S1x512x128 : Shape := ⟨3, ![1, 512, 128]⟩
abbrev S1x8192x128 : Shape := ⟨3, ![1, 8192, 128]⟩
abbrev S1x128 : Shape := ⟨2, ![1, 128]⟩
abbrev S256x256 : Shape := ⟨2, ![256, 256]⟩
abbrev S512x256 : Shape := ⟨2, ![512, 256]⟩
abbrev S512x128 : Shape := ⟨2, ![512, 128]⟩
abbrev S1 : Shape := ⟨1, ![1]⟩
abbrev S512x1 : Shape := ⟨2, ![512, 1]⟩
abbrev S1x256x128 : Shape := ⟨3, ![1, 256, 128]⟩
abbrev S256x128 : Shape := ⟨2, ![256, 128]⟩
abbrev S512 : Shape := ⟨1, ![512]⟩

abbrev nBuf : Space → Nat
  | .hbm => 7
  | .vmem => 8
  | .smem => 1
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S16, .f32⟩
  | .hbm, ⟨4, _⟩ => ⟨S2x8192x1024, .bf16⟩
  | .hbm, ⟨5, _⟩ => ⟨S2x8192x1024, .bf16⟩
  | .hbm, ⟨6, _⟩ => ⟨S2x8192x1024, .f32⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .smem, ⟨0, _⟩ => ⟨S16, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

def k0_off1 (i : grid0.Coords) (c0_i32_12 : BitVec 32) : Fin 1 → Nat :=
  let arg1 : BitVec 32 := BitVec.ofNat 32 (i 1).val
  let c2_i32 : BitVec 32 := 2#32
  let v51 : BitVec 32 := Scalar.muli arg1 c2_i32
  let v52 : BitVec 32 := Scalar.addi v51 c0_i32_12
  let v53 : Index := Scalar.indexCast v52
  ![v53.toNat]
def k0_mult1 (i : grid0.Coords) : BitVec 32 :=
  let arg2 : BitVec 32 := BitVec.ofNat 32 (i 2).val
  let c2_i32_17 : BitVec 32 := 2#32
  let v61 : BitVec 32 := Scalar.muli arg2 c2_i32_17
  let c1_i32_18 : BitVec 32 := 1#32
  let v62 : BitVec 32 := Scalar.addi v61 c1_i32_18
  let c256_i32_23 : BitVec 32 := 256#32
  let v72 : BitVec 32 := Scalar.muli v62 c256_i32_23
  v72
def k0_off2 (i : grid0.Coords) (c1_i32_18 : BitVec 32) : Fin 3 → Nat :=
  let c0_24 : Index := 0#32
  let arg2 : BitVec 32 := BitVec.ofNat 32 (i 2).val
  let c2_i32_17 : BitVec 32 := 2#32
  let v61 : BitVec 32 := Scalar.muli arg2 c2_i32_17
  let v62 : BitVec 32 := Scalar.addi v61 c1_i32_18
  let c256_i32_23 : BitVec 32 := 256#32
  let v72 : BitVec 32 := Scalar.muli v62 c256_i32_23
  let v73 : BitVec 32 := v72
  let v74 : Index := Scalar.indexCast v73
  let c0_25 : Index := 0#32
  ![0, v74.toNat, 0]
def k0_mult2 (i : grid0.Coords) : BitVec 32 :=
  let arg2 : BitVec 32 := BitVec.ofNat 32 (i 2).val
  let c2_i32_19 : BitVec 32 := 2#32
  let v63 : BitVec 32 := Scalar.muli arg2 c2_i32_19
  let c0_i32_20 : BitVec 32 := 0#32
  let v64 : BitVec 32 := Scalar.addi v63 c0_i32_20
  let c256_i32_28 : BitVec 32 := 256#32
  let v80 : BitVec 32 := Scalar.muli v64 c256_i32_28
  v80
@[reducible] def k0_t1_loop (i : grid0.Coords) : Scf.Loop 32 :=
  let c0_i32_77 : BitVec 32 := 0#32
  let arg2 : BitVec 32 := BitVec.ofNat 32 (i 2).val
  let v231 : BitVec 32 := Scalar.subi arg2 c0_i32_77
  let c1_i32_78 : BitVec 32 := 1#32
  let v233 : BitVec 32 := Scalar.divsi v231 c1_i32_78
  let v234 : BitVec 32 := Scalar.muli v233 c1_i32_78
  let v235 : BitVec 32 := Scalar.addi c0_i32_77 v234
  let c1_i32_79 : BitVec 32 := 1#32
  ⟨c0_i32_77, v235, c1_i32_79⟩
def k0_mult3 (i : grid0.Coords) (k0_t1 : Fin (k0_t1_loop i).trips) : BitVec 32 :=
  let arg2 : BitVec 32 := BitVec.ofNat 32 (i 2).val
  let c0_i32_77 : BitVec 32 := 0#32
  let c1_i32_79 : BitVec 32 := 1#32
  let arg8 : BitVec 32 := Scf.iv c0_i32_77 c1_i32_79 k0_t1
  let v241 : BitVec 32 := Scalar.subi arg2 arg8
  let c2_i32_84 : BitVec 32 := 2#32
  let v242 : BitVec 32 := Scalar.muli v241 c2_i32_84
  let c1_i32_85 : BitVec 32 := 1#32
  let v243 : BitVec 32 := Scalar.subi v242 c1_i32_85
  let c0_i32_86 : BitVec 32 := 0#32
  let v244 : BitVec 32 := Scalar.subi v243 c0_i32_86
  let c256_i32_90 : BitVec 32 := 256#32
  let v249 : BitVec 32 := Scalar.muli v244 c256_i32_90
  v249
def k0_off3 (i : grid0.Coords) (k0_t1 : Fin (k0_t1_loop i).trips) (c0_i32_86 : BitVec 32) : Fin 3 → Nat :=
  let c0_91 : Index := 0#32
  let arg2 : BitVec 32 := BitVec.ofNat 32 (i 2).val
  let c0_i32_77 : BitVec 32 := 0#32
  let c1_i32_79 : BitVec 32 := 1#32
  let arg8 : BitVec 32 := Scf.iv c0_i32_77 c1_i32_79 k0_t1
  let v241 : BitVec 32 := Scalar.subi arg2 arg8
  let c2_i32_84 : BitVec 32 := 2#32
  let v242 : BitVec 32 := Scalar.muli v241 c2_i32_84
  let c1_i32_85 : BitVec 32 := 1#32
  let v243 : BitVec 32 := Scalar.subi v242 c1_i32_85
  let v244 : BitVec 32 := Scalar.subi v243 c0_i32_86
  let c256_i32_90 : BitVec 32 := 256#32
  let v249 : BitVec 32 := Scalar.muli v244 c256_i32_90
  let v250 : BitVec 32 := v249
  let v251 : Index := Scalar.indexCast v250
  let c0_92 : Index := 0#32
  ![0, v251.toNat, 0]
def k0_mult4 (i : grid0.Coords) (k0_t1 : Fin (k0_t1_loop i).trips) : BitVec 32 :=
  let arg2 : BitVec 32 := BitVec.ofNat 32 (i 2).val
  let c0_i32_77 : BitVec 32 := 0#32
  let c1_i32_79 : BitVec 32 := 1#32
  let arg8 : BitVec 32 := Scf.iv c0_i32_77 c1_i32_79 k0_t1
  let v245 : BitVec 32 := Scalar.subi arg2 arg8
  let c2_i32_87 : BitVec 32 := 2#32
  let v246 : BitVec 32 := Scalar.muli v245 c2_i32_87
  let c1_i32_88 : BitVec 32 := 1#32
  let v247 : BitVec 32 := Scalar.subi v246 c1_i32_88
  let c1_i32_89 : BitVec 32 := 1#32
  let v248 : BitVec 32 := Scalar.subi v247 c1_i32_89
  let c256_i32_95 : BitVec 32 := 256#32
  let v257 : BitVec 32 := Scalar.muli v248 c256_i32_95
  v257
@[reducible] def k0_t2_loop (i : grid0.Coords) : Scf.Loop 32 :=
  let c0_i32_77 : BitVec 32 := 0#32
  let arg2 : BitVec 32 := BitVec.ofNat 32 (i 2).val
  let v231 : BitVec 32 := Scalar.subi arg2 c0_i32_77
  let c1_i32_78 : BitVec 32 := 1#32
  let v233 : BitVec 32 := Scalar.divsi v231 c1_i32_78
  let v234 : BitVec 32 := Scalar.muli v233 c1_i32_78
  let v235 : BitVec 32 := Scalar.addi c0_i32_77 v234
  let v232 : BitVec 32 := Scalar.addi c0_i32_77 v231
  let c1_i32_80 : BitVec 32 := 1#32
  ⟨v235, v232, c1_i32_80⟩
def k0_mult5 (i : grid0.Coords) (k0_t2 : Fin (k0_t2_loop i).trips) : BitVec 32 :=
  let arg2 : BitVec 32 := BitVec.ofNat 32 (i 2).val
  let c0_i32_77 : BitVec 32 := 0#32
  let v231 : BitVec 32 := Scalar.subi arg2 c0_i32_77
  let c1_i32_78 : BitVec 32 := 1#32
  let v233 : BitVec 32 := Scalar.divsi v231 c1_i32_78
  let v234 : BitVec 32 := Scalar.muli v233 c1_i32_78
  let v235 : BitVec 32 := Scalar.addi c0_i32_77 v234
  let c1_i32_80 : BitVec 32 := 1#32
  let arg8 : BitVec 32 := Scf.iv v235 c1_i32_80 k0_t2
  let v241 : BitVec 32 := Scalar.subi arg2 arg8
  let c2_i32_84 : BitVec 32 := 2#32
  let v242 : BitVec 32 := Scalar.muli v241 c2_i32_84
  let c1_i32_85 : BitVec 32 := 1#32
  let v243 : BitVec 32 := Scalar.subi v242 c1_i32_85
  let c0_i32_86 : BitVec 32 := 0#32
  let v244 : BitVec 32 := Scalar.subi v243 c0_i32_86
  let c256_i32_90 : BitVec 32 := 256#32
  let v249 : BitVec 32 := Scalar.muli v244 c256_i32_90
  v249
def k0_off4 (i : grid0.Coords) (k0_t2 : Fin (k0_t2_loop i).trips) (c0_i32_86 : BitVec 32) : Fin 3 → Nat :=
  let c0_91 : Index := 0#32
  let arg2 : BitVec 32 := BitVec.ofNat 32 (i 2).val
  let c0_i32_77 : BitVec 32 := 0#32
  let v231 : BitVec 32 := Scalar.subi arg2 c0_i32_77
  let c1_i32_78 : BitVec 32 := 1#32
  let v233 : BitVec 32 := Scalar.divsi v231 c1_i32_78
  let v234 : BitVec 32 := Scalar.muli v233 c1_i32_78
  let v235 : BitVec 32 := Scalar.addi c0_i32_77 v234
  let c1_i32_80 : BitVec 32 := 1#32
  let arg8 : BitVec 32 := Scf.iv v235 c1_i32_80 k0_t2
  let v241 : BitVec 32 := Scalar.subi arg2 arg8
  let c2_i32_84 : BitVec 32 := 2#32
  let v242 : BitVec 32 := Scalar.muli v241 c2_i32_84
  let c1_i32_85 : BitVec 32 := 1#32
  let v243 : BitVec 32 := Scalar.subi v242 c1_i32_85
  let v244 : BitVec 32 := Scalar.subi v243 c0_i32_86
  let c256_i32_90 : BitVec 32 := 256#32
  let v249 : BitVec 32 := Scalar.muli v244 c256_i32_90
  let v250 : BitVec 32 := v249
  let v251 : Index := Scalar.indexCast v250
  let c0_92 : Index := 0#32
  ![0, v251.toNat, 0]
def k0_mult6 (i : grid0.Coords) (k0_t2 : Fin (k0_t2_loop i).trips) : BitVec 32 :=
  let arg2 : BitVec 32 := BitVec.ofNat 32 (i 2).val
  let c0_i32_77 : BitVec 32 := 0#32
  let v231 : BitVec 32 := Scalar.subi arg2 c0_i32_77
  let c1_i32_78 : BitVec 32 := 1#32
  let v233 : BitVec 32 := Scalar.divsi v231 c1_i32_78
  let v234 : BitVec 32 := Scalar.muli v233 c1_i32_78
  let v235 : BitVec 32 := Scalar.addi c0_i32_77 v234
  let c1_i32_80 : BitVec 32 := 1#32
  let arg8 : BitVec 32 := Scf.iv v235 c1_i32_80 k0_t2
  let v245 : BitVec 32 := Scalar.subi arg2 arg8
  let c2_i32_87 : BitVec 32 := 2#32
  let v246 : BitVec 32 := Scalar.muli v245 c2_i32_87
  let c1_i32_88 : BitVec 32 := 1#32
  let v247 : BitVec 32 := Scalar.subi v246 c1_i32_88
  let c1_i32_89 : BitVec 32 := 1#32
  let v248 : BitVec 32 := Scalar.subi v247 c1_i32_89
  let c256_i32_95 : BitVec 32 := 256#32
  let v257 : BitVec 32 := Scalar.muli v248 c256_i32_95
  v257
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S2x8192x1024 : Shape := ⟨3, ![2, 8192, 1024]⟩
abbrev S16 : Shape := ⟨1, ![16]⟩
abbrev S2x8192x16x64 : Shape := ⟨4, ![2, 8192, 16, 64]⟩
abbrev S1x16x1x1 : Shape := ⟨4, ![1, 16, 1, 1]⟩
abbrev S2x16x8192x8192 : Shape := ⟨4, ![2, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x64x8192 : Shape := ⟨4, ![2, 16, 64, 8192]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S16, .f32⟩
  | .hbm, ⟨4, _⟩ => ⟨S2x8192x16x64, .f32⟩
  | .hbm, ⟨5, _⟩ => ⟨S2x8192x16x64, .f32⟩
  | .hbm, ⟨6, _⟩ => ⟨S2x8192x16x64, .f32⟩
  | .hbm, ⟨7, _⟩ => ⟨S1x16x1x1, .f32⟩
  | .hbm, ⟨8, _⟩ => ⟨S2x16x8192x8192, .f32⟩
  | .hbm, ⟨9, _⟩ => ⟨S_, .f32⟩
  | .hbm, ⟨10, _⟩ => ⟨S2x16x8192x8192, .f32⟩
  | .hbm, ⟨11, _⟩ => ⟨S2x16x8192x8192, .f32⟩
  | .hbm, ⟨12, _⟩ => ⟨S2x16x8192x8192, .f32⟩
  | .hbm, ⟨13, _⟩ => ⟨S2x16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x16x8192x8192, .f32⟩
  | .hbm, ⟨21, _⟩ => ⟨S2x16x8192x8192, .f32⟩
  | .hbm, ⟨22, _⟩ => ⟨S_, .f32⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .f32⟩
  | .hbm, ⟨27, _⟩ => ⟨S2x16x8192x8192, .i1⟩
  | .hbm, ⟨28, _⟩ => ⟨S2x16x8192x8192, .f32⟩
  | .hbm, ⟨29, _⟩ => ⟨S2x16x8192x8192, .f32⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S2x16x8192x8192, .f32⟩
  | .hbm, ⟨37, _⟩ => ⟨S_, .f32⟩
  | .hbm, ⟨38, _⟩ => ⟨S_, .f32⟩
  | .hbm, ⟨39, _⟩ => ⟨S2x16x8192x8192, .i1⟩
  | .hbm, ⟨40, _⟩ => ⟨S2x16x8192x8192, .f32⟩
  | .hbm, ⟨41, _⟩ => ⟨S2x16x8192x8192, .f32⟩
  | .hbm, ⟨42, _⟩ => ⟨S_, .f32⟩
  | .hbm, ⟨43, _⟩ => ⟨S_, .f32⟩
  | .hbm, ⟨44, _⟩ => ⟨S2x16x8192x8192, .f32⟩
  | .hbm, ⟨45, _⟩ => ⟨S2x16x8192x8192, .f32⟩
  | .hbm, ⟨46, _⟩ => ⟨S2x16x8192x8192, .f32⟩
  | .hbm, ⟨47, _⟩ => ⟨S_, .f32⟩
  | .hbm, ⟨48, _⟩ => ⟨S2x16x8192x8192, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .f32⟩
  | .hbm, ⟨52, _⟩ => ⟨S2x16x8192x8192, .i1⟩
  | .hbm, ⟨53, _⟩ => ⟨S2x16x8192x8192, .f32⟩
  | .hbm, ⟨54, _⟩ => ⟨S2x16x8192x8192, .f32⟩
  | .hbm, ⟨55, _⟩ => ⟨S2x16x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x8192x8192, .f32⟩
  | .hbm, ⟨61, _⟩ => ⟨S2x16x8192x8192, .f32⟩
  | .hbm, ⟨62, _⟩ => ⟨S2x16x8192x8192, .f32⟩
  | .hbm, ⟨63, _⟩ => ⟨S2x16x8192x8192, .f32⟩
  | .hbm, ⟨64, _⟩ => ⟨S_, .f32⟩
  | .hbm, ⟨65, _⟩ => ⟨S_, .f32⟩
  | .hbm, ⟨66, _⟩ => ⟨S2x16x8192x8192, .i1⟩
  | .hbm, ⟨67, _⟩ => ⟨S2x16x8192x8192, .f32⟩
  | .hbm, ⟨68, _⟩ => ⟨S2x16x8192x8192, .f32⟩
  | .hbm, ⟨69, _⟩ => ⟨S2x16x64x8192, .f32⟩
  | .hbm, ⟨70, _⟩ => ⟨S2x8192x16x64, .f32⟩
  | .hbm, ⟨71, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024x1024, .f32⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S1024x1024, .bf16⟩
  | .local _ .vmem, ⟨9, _⟩ => ⟨S1x1024, .f32⟩
  | .local _ .vmem, ⟨10, _⟩ => ⟨S256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S1024x2048 : Shape := ⟨2, ![1024, 2048]⟩
abbrev S2048x1024 : Shape := ⟨2, ![2048, 1024]⟩
abbrev S2x1024x8192 : Shape := ⟨3, ![2, 1024, 8192]⟩
abbrev S256x1024 : Shape := ⟨2, ![256, 1024]⟩
abbrev S1x1024x256 : Shape := ⟨3, ![1, 1024, 256]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩

abbrev nBuf : Space → Nat
  | .hbm => 13
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S1024x2048, .bf16⟩
  | .hbm, ⟨6, _⟩ => ⟨S2048x1024, .bf16⟩
  | .hbm, ⟨7, _⟩ => ⟨S16384x1024, .bf16⟩
  | .hbm, ⟨8, _⟩ => ⟨S2x1024x8192, .f32⟩
  | .hbm, ⟨9, _⟩ => ⟨S2x1024x8192, .f32⟩
  | .hbm, ⟨10, _⟩ => ⟨S16384x1024, .f32⟩
  | .hbm, ⟨11, _⟩ => ⟨S16384x1024, .bf16⟩
  | .hbm, ⟨12, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F] [Named F]
def κ : String → Option EReal := fun
  | "qscale" => some ((8⁻¹ * (Real.log 2)⁻¹ : ℝ) : EReal)
  | _ => none
-- ==== Reference3Ideal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S2x8192x1024 : Shape := ⟨3, ![2, 8192, 1024]⟩
abbrev S2x1024x8192 : Shape := ⟨3, ![2, 1024, 8192]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S2x8192x1024, .f32⟩
  | .hbm, ⟨33, _⟩ => ⟨S2x1024x8192, .f32⟩
  | .hbm, ⟨34, _⟩ => ⟨S2x8192x1024, .f32⟩
  | .hbm, ⟨35, _⟩ => ⟨S2x1024x8192, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | .hbm, ⟨46, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S1024x1 : Shape := ⟨2, ![1024, 1]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 43
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S16384x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1x1024, .i32⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .bf16⟩
  | .hbm, ⟨36, _⟩ => ⟨S1024x1024, .bf16⟩
  | .hbm, ⟨37, _⟩ => ⟨S256x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x256, .f32⟩
  | .local _ .vmem, ⟨12, _⟩ => ⟨S256x256, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1024 : Shape := ⟨2, ![1, 1024]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S16384x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S16384x16x64, .f32⟩
  | .hbm, ⟨12, _⟩ => ⟨S_, .f32⟩
  | .hbm, ⟨13, _⟩ => ⟨S16384x16, .f32⟩
  | .hbm, ⟨14, _⟩ => ⟨S16384x16x1, .f32⟩
  | .hbm, ⟨15, _⟩ => ⟨S_, .f32⟩
  | .hbm, ⟨16, _⟩ => ⟨S16384x16x1, .f32⟩
  | .hbm, ⟨17, _⟩ => ⟨S16384x16x1, .f32⟩
  | .hbm, ⟨18, _⟩ => ⟨S16384x16x64, .f32⟩
  | .hbm, ⟨19, _⟩ => ⟨S16384x16x64, .f32⟩
  | .hbm, ⟨20, _⟩ => ⟨S16384x16x64, .f32⟩
  | .hbm, ⟨21, _⟩ => ⟨S_, .f32⟩
  | .hbm, ⟨22, _⟩ => ⟨S16384x16, .f32⟩
  | .hbm, ⟨23, _⟩ => ⟨S16384x16x1, .f32⟩
  | .hbm, ⟨24, _⟩ => ⟨S_, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S_, .f32⟩
  | .hbm, ⟨30, _⟩ => ⟨S16384x16x1, .f32⟩
  | .hbm, ⟨31, _⟩ => ⟨S16384x16x1, .f32⟩
  | .hbm, ⟨32, _⟩ => ⟨S16384x16x1, .f32⟩
  | .hbm, ⟨33, _⟩ => ⟨S16384x16x64, .f32⟩
  | .hbm, ⟨34, _⟩ => ⟨S16384x16x64, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel5.lean ====
abbrev S1024x1024 : Shape := ⟨2, ![1024, 1024]⟩
abbrev S1024x256 : Shape := ⟨2, ![1024, 256]⟩
abbrev S1024 : Shape := ⟨1, ![1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024x1024, .f32⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S1024x1024, .bf16⟩
  | .local _ .vmem, ⟨9, _⟩ => ⟨S1x1024, .f32⟩
  | .local _ .vmem, ⟨10, _⟩ => ⟨S256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1024x1024 : Shape := ⟨2, ![1024, 1024]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S1024x1 : Shape := ⟨2, ![1024, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel6Ideal.lean ====
variable {F : FTy → Type} [FloatOps F] [Named F]
def κ : String → Option EReal := fun
  | "qscale" => some ((8⁻¹ * (Real.log 2)⁻¹ : ℝ) : EReal)
  | _ => none
-- ==== Reference6Ideal.lean ====
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S1024x1 : Shape := ⟨2, ![1024, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x4096, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .bf16⟩
  | .hbm, ⟨43, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel7.lean ====
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩
abbrev S1024x1 : Shape := ⟨2, ![1024, 1]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 43
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1x1024, .i32⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .bf16⟩
  | .hbm, ⟨36, _⟩ => ⟨S1024x1024, .bf16⟩
  | .hbm, ⟨37, _⟩ => ⟨S256x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x256, .f32⟩
  | .local _ .vmem, ⟨12, _⟩ => ⟨S256x256, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1024x16x64 : Shape := ⟨3, ![1024, 16, 64]⟩
abbrev S_ : Shape := ⟨0, ![]⟩
abbrev S1024x16 : Shape := ⟨2, ![1024, 16]⟩
abbrev S1024x16x1 : Shape := ⟨3, ![1024, 16, 1]⟩
abbrev S1x1024 : Shape := ⟨2, ![1, 1024]⟩
abbrev S1024x1 : Shape := ⟨2, ![1024, 1]⟩

abbrev nBuf : Space → Nat
  | .hbm => 74
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S1024x16x64, .f32⟩
  | .hbm, ⟨12, _⟩ => ⟨S_, .f32⟩
  | .hbm, ⟨13, _⟩ => ⟨S1024x16, .f32⟩
  | .hbm, ⟨14, _⟩ => ⟨S1024x16x1, .f32⟩
  | .hbm, ⟨15, _⟩ => ⟨S_, .f32⟩
  | .hbm, ⟨16, _⟩ => ⟨S1024x16x1, .f32⟩
  | .hbm, ⟨17, _⟩ => ⟨S1024x16x1, .f32⟩
  | .hbm, ⟨18, _⟩ => ⟨S1024x16x64, .f32⟩
  | .hbm, ⟨19, _⟩ => ⟨S1024x16x64, .f32⟩
  | .hbm, ⟨20, _⟩ => ⟨S1024x16x64, .f32⟩
  | .hbm, ⟨21, _⟩ => ⟨S_, .f32⟩
  | .hbm, ⟨22, _⟩ => ⟨S1024x16, .f32⟩
  | .hbm, ⟨23, _⟩ => ⟨S1024x16x1, .f32⟩
  | .hbm, ⟨24, _⟩ => ⟨S_, .f32⟩
  | .hbm, ⟨25, _⟩ => ⟨S1024x16x1, .f32⟩
  | .hbm, ⟨26, _⟩ => ⟨S1024x16x1, .f32⟩
  | .hbm, ⟨27, _⟩ => ⟨S1024x16x64, .f32⟩
  | .hbm, ⟨28, _⟩ => ⟨S1024x16x64, .f32⟩
  | .hbm, ⟨29, _⟩ => ⟨S_, .f32⟩
  | .hbm, ⟨30, _⟩ => ⟨S1024x16x1, .f32⟩
  | .hbm, ⟨31, _⟩ => ⟨S1024x16x1, .f32⟩
  | .hbm, ⟨32, _⟩ => ⟨S1024x16x1, .f32⟩
  | .hbm, ⟨33, _⟩ => ⟨S1024x16x64, .f32⟩
  | .hbm, ⟨34, _⟩ => ⟨S1024x16x64, .f32⟩
  | .hbm, ⟨35, _⟩ => ⟨S1024x1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S_, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x1, .f32⟩
  | .hbm, ⟨56, _⟩ => ⟨S1024x1024, .f32⟩
  | .hbm, ⟨57, _⟩ => ⟨S1024x1024, .f32⟩
  | .hbm, ⟨58, _⟩ => ⟨S1x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S_, .f32⟩
  | .hbm, ⟨67, _⟩ => ⟨S1024x1024, .f32⟩
  | .hbm, ⟨68, _⟩ => ⟨S1024x1024, .f32⟩
  | .hbm, ⟨69, _⟩ => ⟨S_, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel8.lean ====
abbrev S1024x1024 : Shape := ⟨2, ![1024, 1024]⟩
abbrev S128x1024 : Shape := ⟨2, ![128, 1024]⟩
abbrev S1024 : Shape := ⟨1, ![1024]⟩
abbrev S6x1024 : Shape := ⟨2, ![6, 1024]⟩
abbrev S4x1024x1024 : Shape := ⟨3, ![4, 1024, 1024]⟩
abbrev S1024x64 : Shape := ⟨2, ![1024, 64]⟩
abbrev S64x1024 : Shape := ⟨2, ![64, 1024]⟩
abbrev S16x64 : Shape := ⟨2, ![16, 64]⟩
abbrev S128x1x1024 : Shape := ⟨3, ![128, 1, 1024]⟩
abbrev S_ : Shape := ⟨0, ![]⟩
abbrev S128x8x1024 : Shape := ⟨3, ![128, 8, 1024]⟩
abbrev S1024x1 : Shape := ⟨2, ![1024, 1]⟩
abbrev S1x1024 : Shape := ⟨2, ![1, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S1x1024x1024 : Shape := ⟨3, ![1, 1024, 1024]⟩
abbrev S256x64 : Shape := ⟨2, ![256, 64]⟩

abbrev nBuf : Space → Nat
  | .hbm => 65
  | .vmem => 36
  | .smem => 0
  | _ => 0

abbrev bufTy : (tb : Table) → Fin (tcTables nBuf tb) → BufTy
  | .hbm, ⟨0, _⟩ => ⟨S1024x1024, .f32⟩
  | .hbm, ⟨1, _⟩ => ⟨S128x1024, .f32⟩
  | .hbm, ⟨2, _⟩ => ⟨S1024, .f32⟩
  | .hbm, ⟨3, _⟩ => ⟨S6x1024, .f32⟩
  | .hbm, ⟨4, _⟩ => ⟨S4x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024, .f32⟩
  | .hbm, ⟨12, _⟩ => ⟨S1024, .f32⟩
  | .hbm, ⟨13, _⟩ => ⟨S16x64, .f32⟩
  | .hbm, ⟨14, _⟩ => ⟨S128x1x1024, .f32⟩
  | .hbm, ⟨15, _⟩ => ⟨S_, .i32⟩
  | .hbm, ⟨16, _⟩ => ⟨S_, .f32⟩
  | .hbm, ⟨17, _⟩ => ⟨S128x8x1024, .f32⟩
  | .hbm, ⟨18, _⟩ => ⟨S1024x1024, .f32⟩
  | .hbm, ⟨19, _⟩ => ⟨S4x1024x1024, .bf16⟩
  | .hbm, ⟨20, _⟩ => ⟨S1024x64, .bf16⟩
  | .hbm, ⟨21, _⟩ => ⟨S64x1024, .bf16⟩
  | .hbm, ⟨22, _⟩ => ⟨S1024x64, .bf16⟩
  | .hbm, ⟨23, _⟩ => ⟨S64x1024, .bf16⟩
  | .hbm, ⟨24, _⟩ => ⟨S1024, .f32⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1x1024, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .bf16⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S6x1024, .f32⟩
  | .local _ .vmem, ⟨6, _⟩ => ⟨S4x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_v23_2 : Ref sig .tc := ⟨.hbm, 58, rfl⟩
abbrev main_v23_3 : Ref sig .tc := ⟨.hbm, 59, rfl⟩
abbrev main_v23_4 : Ref sig .tc := ⟨.hbm, 60, rfl⟩
abbrev main_v23_5 : Ref sig .tc := ⟨.hbm, 61, rfl⟩
abbrev main_v23_6 : Ref sig .tc := ⟨.hbm, 62, rfl⟩
abbrev main_v23_7 : Ref sig .tc := ⟨.hbm, 63, rfl⟩
abbrev main_v23_8 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference8Ideal.lean ====
abbrev S1024x1024 : Shape := ⟨2, ![1024, 1024]⟩
abbrev S128x1024 : Shape := ⟨2, ![128, 1024]⟩
abbrev S1024 : Shape := ⟨1, ![1024]⟩
abbrev S6x1024 : Shape := ⟨2, ![6, 1024]⟩
abbrev S4x1024x1024 : Shape := ⟨3, ![4, 1024, 1024]⟩
abbrev S1024x64 : Shape := ⟨2, ![1024, 64]⟩
abbrev S64x1024 : Shape := ⟨2, ![64, 1024]⟩
abbrev S16x64 : Shape := ⟨2, ![16, 64]⟩
abbrev S_ : Shape := ⟨0, ![]⟩
abbrev S1024x1 : Shape := ⟨2, ![1024, 1]⟩
abbrev S1x1024 : Shape := ⟨2, ![1, 1024]⟩
abbrev S128x8x1024 : Shape := ⟨3, ![128, 8, 1024]⟩
abbrev S128x1x1024 : Shape := ⟨3, ![128, 1, 1024]⟩
abbrev S128x7x1024 : Shape := ⟨3, ![128, 7, 1024]⟩
abbrev S1x128x8x1024 : Shape := ⟨4, ![1, 128, 8, 1024]⟩
abbrev S6x1x1x1024 : Shape := ⟨4, ![6, 1, 1, 1024]⟩
abbrev S6x128x8x1024 : Shape := ⟨4, ![6, 128, 8, 1024]⟩
abbrev S4x128x8x1024 : Shape := ⟨4, ![4, 128, 8, 1024]⟩
abbrev S128x8x64 : Shape := ⟨3, ![128, 8, 64]⟩
abbrev S1x1x1024 : Shape := ⟨3, ![1, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x1024, .f32⟩
  | .hbm, ⟨2, _⟩ => ⟨S1024, .f32⟩
  | .hbm, ⟨3, _⟩ => ⟨S6x1024, .f32⟩
  | .hbm, ⟨4, _⟩ => ⟨S4x1024x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64x1024, .f32⟩
  | .hbm, ⟨11, _⟩ => ⟨S1024, .f32⟩
  | .hbm, ⟨12, _⟩ => ⟨S1024, .f32⟩
  | .hbm, ⟨13, _⟩ => ⟨S16x64, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S128x8x1024, .f32⟩
  | .hbm, ⟨31, _⟩ => ⟨S128x1x1024, .f32⟩
  | .hbm, ⟨32, _⟩ => ⟨S128x7x1024, .f32⟩
  | .hbm, ⟨33, _⟩ => ⟨S128x8x1024, .f32⟩
  | .hbm, ⟨34, _⟩ => ⟨S1x128x8x1024, .f32⟩
  | .hbm, ⟨35, _⟩ => ⟨S128x8x1024, .f32⟩
  | .hbm, ⟨36, _⟩ => ⟨S1x128x8x1024, .f32⟩
  | .hbm, ⟨37, _⟩ => ⟨S6x1x1x1024, .f32⟩
  | .hbm, ⟨38, _⟩ => ⟨S6x128x8x1024, .f32⟩
  | .hbm, ⟨39, _⟩ => ⟨S6x128x8x1024, .f32⟩
  | .hbm, ⟨40, _⟩ => ⟨S6x128x8x1024, .f32⟩
  | .hbm, ⟨41, _⟩ => ⟨S6x128x8x1024, .f32⟩
  | .hbm, ⟨42, _⟩ => ⟨S6x128x8x1024, .f32⟩
  | .hbm, ⟨43, _⟩ => ⟨S4x128x8x1024, .f32⟩
  | .hbm, ⟨44, _⟩ => ⟨S4x128x8x1024, .f32⟩
  | .hbm, ⟨45, _⟩ => ⟨S1x128x8x1024, .f32⟩
  | .hbm, ⟨46, _⟩ => ⟨S128x8x1024, .f32⟩
  | .hbm, ⟨47, _⟩ => ⟨S1x128x8x1024, .f32⟩
  | .hbm, ⟨48, _⟩ => ⟨S128x8x1024, .f32⟩
  | .hbm, ⟨49, _⟩ => ⟨S1x128x8x1024, .f32⟩
  | .hbm, ⟨50, _⟩ => ⟨S128x8x1024, .f32⟩
  | .hbm, ⟨51, _⟩ => ⟨S1x128x8x1024, .f32⟩
  | .hbm, ⟨52, _⟩ => ⟨S128x8x1024, .f32⟩
  | .hbm, ⟨53, _⟩ => ⟨S1x128x8x1024, .f32⟩
  | .hbm, ⟨54, _⟩ => ⟨S128x8x1024, .f32⟩
  | .hbm, ⟨55, _⟩ => ⟨S128x8x64, .f32⟩
  | .hbm, ⟨56, _⟩ => ⟨S128x8x64, .f32⟩
  | .hbm, ⟨57, _⟩ => ⟨S128x8x1024, .f32⟩
  | .hbm, ⟨58, _⟩ => ⟨S1x1x1024, .f32⟩
  | .hbm, ⟨59, _⟩ => ⟨S128x8x1024, .f32⟩
  | .hbm, ⟨60, _⟩ => ⟨S128x8x1024, .f32⟩
  | .hbm, ⟨61, _⟩ => ⟨S128x8x1024, .f32⟩
  | .hbm, ⟨62, _⟩ => ⟨S_, .f32⟩
  | .hbm, ⟨63, _⟩ => ⟨S128x8x1024, .f32⟩
  | .hbm, ⟨64, _⟩ => ⟨S128x8x1024, .f32⟩
  | .hbm, ⟨65, _⟩ => ⟨S128x8x1024, .f32⟩
  | .hbm, ⟨66, _⟩ => ⟨S128x8x1024, .f32⟩
  | .hbm, ⟨67, _⟩ => ⟨S128x8x1024, .i1⟩
  | .hbm, ⟨68, _⟩ => ⟨S128x8x1024, .f32⟩
  | .hbm, ⟨69, _⟩ => ⟨S128x8x1024, .f32⟩
  | .hbm, ⟨70, _⟩ => ⟨S128x8x1024, .f32⟩
  | .hbm, ⟨71, _⟩ => ⟨S128x8x1024, .f32⟩
  | .hbm, ⟨72, _⟩ => ⟨S128x8x1024, .f32⟩
  | .hbm, ⟨73, _⟩ => ⟨S128x8x1024, .f32⟩
  | .hbm, ⟨74, _⟩ => ⟨S128x8x1024, .f32⟩
  | .hbm, ⟨75, _⟩ => ⟨S128x8x1024, .f32⟩
  | .hbm, ⟨76, _⟩ => ⟨S128x8x1024, .f32⟩
  | .hbm, ⟨77, _⟩ => ⟨S_, .f32⟩
  | .hbm, ⟨78, _⟩ => ⟨S128x8x1024, .f32⟩
  | .hbm, ⟨79, _⟩ => ⟨S128x8x1024, .f32⟩
  | .hbm, ⟨80, _⟩ => ⟨S1x128x8x1024, .f32⟩
  | .hbm, ⟨81, _⟩ => ⟨S128x8x1024, .f32⟩
  | .hbm, ⟨82, _⟩ => ⟨S128x8x64, .f32⟩
  | .hbm, ⟨83, _⟩ => ⟨S128x8x1024, .f32⟩
  | .hbm, ⟨84, _⟩ => ⟨S1x1x1024, .f32⟩
  | .hbm, ⟨85, _⟩ => ⟨S128x8x1024, .f32⟩
  | .hbm, ⟨86, _⟩ => ⟨S128x8x1024, .f32⟩
  | .hbm, ⟨87, _⟩ => ⟨S128x8x1024, .f32⟩
  | .hbm, ⟨88, _⟩ => ⟨S128x8x1024, .f32⟩
  | .hbm, ⟨89, _⟩ => ⟨S_, .f32⟩
  | .hbm, ⟨90, _⟩ => ⟨S128x8x1024, .f32⟩
  | .hbm, ⟨91, _⟩ => ⟨S128x8x1024, .f32⟩
  | .hbm, ⟨92, _⟩ => ⟨S_, .f32⟩
  | .hbm, ⟨93, _⟩ => ⟨S128x8x1024, .f32⟩
  | .hbm, ⟨94, _⟩ => ⟨S128x8x1024, .f32⟩
  | .hbm, ⟨95, _⟩ => ⟨S_, .f32⟩
  | .hbm, ⟨96, _⟩ => ⟨S128x8x1024, .f32⟩
  | .hbm, ⟨97, _⟩ => ⟨S128x8x1024, .f32⟩
  | .hbm, ⟨98, _⟩ => ⟨S1x1x1024, .f32⟩
  | .hbm, ⟨99, _⟩ => ⟨S128x8x1024, .f32⟩
  | .hbm, ⟨100, _⟩ => ⟨S128x8x1024, .f32⟩
  | .hbm, ⟨101, _⟩ => ⟨S_, .f32⟩
  | .hbm, ⟨102, _⟩ => ⟨S128x8x1024, .f32⟩
  | .hbm, ⟨103, _⟩ => ⟨S128x8x1024, .f32⟩
  | .hbm, ⟨104, _⟩ => ⟨S128x8x1024, .f32⟩
  | .hbm, ⟨105, _⟩ => ⟨S1024x1024, .f32⟩
  | .hbm, ⟨106, _⟩ => ⟨S128x8x1024, .f32⟩
  | .hbm, ⟨107, _⟩ => ⟨S128x8x1024, .f32⟩
  | .hbm, ⟨108, _⟩ => ⟨S1024x1024, .f32⟩
  | .hbm, ⟨109, _⟩ => ⟨S1024x1024, .f32⟩
  | .hbm, ⟨110, _⟩ => ⟨S1024x1024, .f32⟩
  | .hbm, ⟨111, _⟩ => ⟨S1024x1024, .f32⟩
  | .hbm, ⟨112, _⟩ => ⟨S128x8x1024, .f32⟩
  | .hbm, ⟨113, _⟩ => ⟨S128x8x1024, .f32⟩
  | .hbm, ⟨114, _⟩ => ⟨S_, .f32⟩
  | .hbm, ⟨115, _⟩ => ⟨S128x8x1024, .f32⟩
  | .hbm, ⟨116, _⟩ => ⟨S128x8x1024, .f32⟩
  | .hbm, ⟨117, _⟩ => ⟨S_, .f32⟩
  | .hbm, ⟨118, _⟩ => ⟨S128x8x1024, .f32⟩
  | .hbm, ⟨119, _⟩ => ⟨S128x8x1024, .f32⟩
  | .hbm, ⟨120, _⟩ => ⟨S128x8x1024, .f32⟩
  | .hbm, ⟨121, _⟩ => ⟨S1024x1024, .f32⟩
  | .hbm, ⟨122, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_3 : Ref sig .tc := ⟨.hbm, 89, rfl⟩
abbrev main_v58 : Ref sig .tc := ⟨.hbm, 90, rfl⟩
abbrev main_v59 : Ref sig .tc := ⟨.hbm, 91, rfl⟩
abbrev main_cst_4 : Ref sig .tc := ⟨.hbm, 92, rfl⟩
abbrev main_v60 : Ref sig .tc := ⟨.hbm, 93, rfl⟩
abbrev main_v61 : Ref sig .tc := ⟨.hbm, 94, rfl⟩
abbrev main_cst_5 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩

abbrev nD : Nat := 1
abbrev τ : Topo := Topo.v7x

variable {F : FTy → Type} [FloatOps F]
-- ==== Proof.Visit.lean ====
/-
  The attention kernel's body as a few named vector operations.

  One visit of a 256-key block by one head is the same five steps everywhere in the kernel (the two
  diagonal blocks, the two blocks of every trip of the loop): the logits, their softplus in base 2, the
  weights from a running total (the carry), the next carry, the product with the values. Here each step is
  one definition, and the printed body is shown to be their composition.
-/
module

public import proofs.«01_k».proof.Proof.Gen.KernelIdeal.Value

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F] [Named F]

/-- What the loop carries: the sum of weighted values, and each head's running total of softplus. -/
abbrev Acc (F : FTy → Type) : Type := FVec F S512x128 .f32 × FVec F S512x1 .f32 × FVec F S512x1 .f32

/-- Logits of 512 queries against one block of 256 keys, in base 2: `q kᵀ + bias`. -/
def logit (q : FVec F S512x128 .bf16) (b : F .f32) (kb : Vec F S1x256x128 .bf16) : FVec F S512x256 .f32 :=
  addf (matmul dot_S512x128_S256x128_S512x256_1_1_0_0_n_n none q (shapeCast S256x128 kb shapeCasts_S1x256x128_S256x128 : FVec F S256x128 .bf16)
    (constant S512x256 .f32 0x00000000#32)) (broadcast S512x256 b)

/-- Softplus in base 2 of a tile of logits: `max(l, 0) + log(1 + 2^(-|l|)) · log2(e)`. -/
def splus (l : FVec F S512x256 .f32) : FVec F S512x256 .f32 :=
  addf (maximumf l (broadcast S512x256 (Scalar.ofBits .f32 0x00000000#32)))
    (mulf (log (addf (broadcast S512x256 (Scalar.ofBits .f32 0x3F800000#32))
      (exp2 (subf (broadcast S512x256 (Scalar.ofBits .f32 0x00000000#32)) (absf l)))))
      (broadcast S512x256 (Named.named κ "log2e" 0x3FB8AA3B#32)))

/-- A tile kept where the mask holds, zero elsewhere. -/
def keep (msk : IVec S512x256 1) (x : FVec F S512x256 .f32) : FVec F S512x256 .f32 :=
  select msk x (broadcast S512x256 (Scalar.ofBits .f32 0x00000000#32))

/-- The weights of one block: `2^(l - carry - s - s · tri)`. -/
def wexp (tri : FVec F S256x256 .bf16) (cr : FVec F S512x1 .f32) (l s : FVec F S512x256 .f32) : FVec F S512x256 .f32 :=
  exp2 (subf (subf (subf l (broadcastTo S512x256 cr broadcasts_S512x1_S512x256)) s)
    (matmul dot_S512x256_S256x256_S512x256_1_0_0_1_n_n none (truncf .bf16 s bitsLt_bf16_f32) tri (constant S512x256 .f32 0x00000000#32)))

/-- The carry after a block: the carry before it plus the block's softplus, row by row. -/
def next (cr : FVec F S512x1 .f32) (s : FVec F S512x256 .f32) : FVec F S512x1 .f32 :=
  addf cr (shapeCast S512x1 (multiReduction .add [1] S512 s 0x00000000#32 reduces_S512x256_S512 (.inl rfl) rfl) shapeCasts_S512_S512x1)

/-- The weighted values of one block, of the lanes of one head. -/
def part (w : FVec F S512x256 .f32) (sel : IVec S1x128 1) (vb : Vec F S1x256x128 .bf16) : FVec F S512x128 .f32 :=
  matmul dot_S512x256_S256x128_S512x128_1_0_0_1_n_n none (truncf .bf16 w bitsLt_bf16_f32)
    (select (broadcastTo S256x128 (shapeCast S1x128 sel shapeCasts_S1x128_S1x128) broadcasts_S1x128_S256x128)
      (shapeCast S256x128 vb shapeCasts_S1x256x128_S256x128 : FVec F S256x128 .bf16) (broadcast S256x128 (Scalar.ofBits .bf16 0x0000#16)))
    (constant S512x128 .f32 0x00000000#32)

/-- One trip of the loop: the visit of the block `(ka, va)` and then of the block `(kb, vb)` before it. -/
def trip (tri : FVec F S256x256 .bf16) (e0 e1 : IVec S1x128 1) (q0 q1 : FVec F S512x128 .bf16) (b0 b1 : F .f32)
    (ka va kb vb : Vec F S1x256x128 .bf16) (acc : Acc F) : Acc F :=
  (addf acc.1 (addf (addf (addf
      (part (wexp tri acc.2.1 (logit q0 b0 ka) (splus (logit q0 b0 ka))) e0 va)
      (part (wexp tri acc.2.2 (logit q1 b1 ka) (splus (logit q1 b1 ka))) e1 va))
      (part (wexp tri (next acc.2.1 (splus (logit q0 b0 ka))) (logit q0 b0 kb) (splus (logit q0 b0 kb))) e0 vb))
      (part (wexp tri (next acc.2.2 (splus (logit q1 b1 ka))) (logit q1 b1 kb) (splus (logit q1 b1 kb))) e1 vb)),
   next (next acc.2.1 (splus (logit q0 b0 ka))) (splus (logit q0 b0 kb)),
   next (next acc.2.2 (splus (logit q1 b1 ka))) (splus (logit q1 b1 kb)))

/-- The two diagonal blocks, masked: what the loop starts from. -/
def diag (tri : FVec F S256x256 .bf16) (e0 e1 : IVec S1x128 1) (q0 q1 : FVec F S512x128 .bf16) (b0 b1 : F .f32)
    (ma mb : IVec S512x256 1) (ka va kb vb : Vec F S1x256x128 .bf16) (z : FVec F S512x1 .f32) : Acc F :=
  (addf (addf (addf
      (part (keep ma (wexp tri z (logit q0 b0 ka) (keep ma (splus (logit q0 b0 ka))))) e0 va)
      (part (keep ma (wexp tri z (logit q1 b1 ka) (keep ma (splus (logit q1 b1 ka))))) e1 va))
      (part (keep mb (wexp tri (next z (keep ma (splus (logit q0 b0 ka)))) (logit q0 b0 kb) (keep mb (splus (logit q0 b0 kb))))) e0 vb))
      (part (keep mb (wexp tri (next z (keep ma (splus (logit q1 b1 ka)))) (logit q1 b1 kb) (keep mb (splus (logit q1 b1 kb))))) e1 vb),
   next (next z (keep ma (splus (logit q0 b0 ka)))) (keep mb (splus (logit q0 b0 kb))),
   next (next z (keep ma (splus (logit q1 b1 ka)))) (keep mb (splus (logit q1 b1 kb))))

variable (c : Dev nD) (i : grid0.Coords)
  (arg3 : Memref sig .tc .smem S16 .f32) (harg3 : arg3.IsWhole) (arg4 : Memref sig .tc .vmem S1x512x128 .f32) (harg4 : arg4.IsWhole)
  (arg5 : Memref sig .tc .vmem S1x8192x128 .bf16) (harg5 : arg5.IsWhole) (arg6 : Memref sig .tc .vmem S1x8192x128 .bf16) (harg6 : arg6.IsWhole)
  (arg7 : Memref sig .tc .vmem S1x512x128 .f32) (harg7 : arg7.IsWhole)

/-- The block of 256 rows at a run-time offset, read from a staged key or value array. -/
abbrev rows (arg : Memref sig .tc .vmem S1x8192x128 .bf16) (X : BufTy.Contents (Elt F) arg.view.ty) (off : Fin 3 → ℕ)
    (h : ∀ a, off a + S1x256x128.size a ≤ S1x8192x128.size a) : Vec F S1x256x128 .bf16 :=
  View.readAt (Elt F) arg.view (Rect.unit (s := S1x8192x128) off S1x256x128.size h).toLoadRect X

/-- A trip of the printed loop is `trip` on the four blocks it loads. -/
theorem trip_eq (𝒱 : Variants) (bd : Option 𝒱.V) (arg2 : BitVec 32) (v31 : FVec F S256x256 .bf16) (v37 v39 : IVec S1x128 1)
    (v43 v47 : FVec F S512x128 .bf16) (v52 v57 : F .f32) (X5 : BufTy.Contents (Elt F) arg5.view.ty) (X6 : BufTy.Contents (Elt F) arg6.view.ty)
    (k : Fin (k0_t1_loop i).trips) (acc : Acc F) :
    tripR_k0_t1 (F := F) 𝒱 c bd i arg3 harg3 arg4 harg4 arg5 harg5 arg6 harg6 arg7 harg7 arg2 v31 v37 v39 v43 v47 v52 v57 X5 X6 k acc
      = trip v31 v37 v39 v43 v47 v52 v57
          (rows arg5 X5 (k0_off3 i k 0#32) (k0_off3_inb i k 0)) (rows arg6 X6 (k0_off3 i k 0#32) (k0_off3_inb i k 0))
          (rows arg5 X5 (k0_off3 i k 1#32) (k0_off3_inb i k 1)) (rows arg6 X6 (k0_off3 i k 1#32) (k0_off3_inb i k 1)) acc := by
  unfold tripR_k0_t1 trip_k0_t1
  rfl

/-- The staged queries, whole. -/
abbrev staged4 (X : BufTy.Contents (Elt F) arg4.view.ty) : Vec F S1x512x128 .f32 :=
  View.readAt (Elt F) arg4.view (Rect.unit (s := S1x512x128) ![0, 0, 0] S1x512x128.size inb_S1x512x128_S1x512x128_0_0_0).toLoadRect X

/-- One head's bias, read from scalar memory. -/
abbrev staged3 (X : BufTy.Contents (Elt F) arg3.view.ty) (off : Fin 1 → ℕ) (h : ∀ a, off a + S1.size a ≤ S16.size a) : Elt F .f32 :=
  View.readAt (Elt F) arg3.view (Rect.unit (s := S16) off S1.size h).toLoadRect X (Shape.Idx.first (show 0 < S1.numel from numel1_S1 ▸ Nat.one_pos))

/-- The first loop runs as many trips as there are query blocks before this one. -/
theorem trips1 : ∀ i : grid0.Coords, (k0_t1_loop i).trips = (i 2).val := by decide +kernel

/-- The second loop runs no trip. -/
theorem trips2 (i : grid0.Coords) : (k0_t2_loop i).trips = 0 := Nat.le_zero.mp (k0_t2_abs i).2.1

/-- The rows of trip `k`: its two blocks end where the block before the ones already visited ends. -/
theorem off3_eq : ∀ (i : grid0.Coords) (k : Fin (k0_t1_loop i).trips) (r : Fin 2),
    k0_off3 i k (BitVec.ofNat 32 r.val) = ![0, 512 * ((i 2).val - k.val) - 256 * (r.val + 1), 0] := by decide +kernel

theorem hz3 : (![0, 0, 0] : Fin 3 → ℕ) = fun _ => 0 := funext fun a => by fin_cases a <;> rfl

variable (x0 : Vec F S16 .f32) (x1 : Vec F S1x512x128 .f32) (x2 x3 : Vec F S1x8192x128 .bf16)

/-- The queries of the even head: the odd head's lanes are zero. -/
abbrev qEven : FVec F S512x128 .bf16 := k0_pay59 (k0_pay55 (staged4 arg4 (harg4.unread x1))) k0_pay56
/-- The queries of the odd head: the even head's lanes are zero. -/
abbrev qOdd : FVec F S512x128 .bf16 := k0_pay60 k0_pay53 (k0_pay55 (staged4 arg4 (harg4.unread x1))) k0_pay57
/-- The even head's bias, in base 2. -/
abbrev bEven : F .f32 := k0_pay61 (staged3 arg3 (harg3.unread x0) (k0_off1 i 0#32) (k0_off1_inb i 0))
/-- The odd head's bias, in base 2. -/
abbrev bOdd : F .f32 := k0_pay62 (staged3 arg3 (harg3.unread x0) (k0_off1 i 1#32) (k0_off1_inb i 1))
/-- Which keys of the later diagonal block each query sees. -/
abbrev maskLate : IVec S512x256 1 := k0_pay64 (iota .tc S512x256 32 [0] iota_S512x256_d0_w32) (iota .tc S512x256 32 [1] iota_S512x256_d1_w32)
/-- Which keys of the earlier diagonal block each query sees. -/
abbrev maskEarly : IVec S512x256 1 := k0_pay65 (iota .tc S512x256 32 [0] iota_S512x256_d0_w32) (iota .tc S512x256 32 [1] iota_S512x256_d1_w32)

/-- What the loop starts from at grid point `i`. -/
abbrev start : Acc F :=
  diag k0_pay54 k0_pay56 (k0_pay58 k0_pay53 k0_pay57) (qEven arg4 harg4 x1) (qOdd arg4 harg4 x1) (bEven i arg3 harg3 x0) (bOdd i arg3 harg3 x0) maskLate maskEarly
    (rows arg5 (harg5.unread x2) (k0_off2 i 1#32) (k0_off2_inb i 1)) (rows arg6 (harg6.unread x3) (k0_off2 i 1#32) (k0_off2_inb i 1))
    (rows arg5 (harg5.unread x2) (k0_off2 i 0#32) (k0_off2_inb i 0)) (rows arg6 (harg6.unread x3) (k0_off2 i 0#32) (k0_off2_inb i 0)) k0_pay63

/-- What the loop carries before trip `n` at grid point `i`. -/
abbrev carried (n : ℕ) : Acc F :=
  st_k0_t1 (F := F) Variants.none c none i arg3 harg3 arg4 harg4 arg5 harg5 arg6 harg6 arg7 harg7 (BitVec.ofNat 32 (i 2).val)
    k0_pay54 k0_pay56 (k0_pay58 k0_pay53 k0_pay57) (qEven arg4 harg4 x1) (qOdd arg4 harg4 x1) (bEven i arg3 harg3 x0) (bOdd i arg3 harg3 x0)
    (harg5.unread x2) (harg6.unread x3)
    (start i arg3 harg3 arg4 harg4 arg5 harg5 arg6 harg6 x0 x1 x2 x3) n

/-- The body's output block is the carried sum after the last trip. -/
theorem out_eq :
    out0_A_4 c i arg3 harg3 arg4 harg4 arg5 harg5 arg6 harg6 arg7 harg7 x0 x1 x2 x3
      = k0_pay4 (carried c i arg3 harg3 arg4 harg4 arg5 harg5 arg6 harg6 arg7 harg7 x0 x1 x2 x3 (i 2).val).1 := by
  unfold out0_A_4
  rw [View.read_writes_eq_canon _ _ _ (cover0_A_4 c i arg3 harg3 arg4 harg4 arg5 harg5 arg6 harg6 arg7 harg7 x0 x1 x2 x3)]
  unfold kernelRun0_A
  dsimp only
  rw [View.canon_unit_zero hz3]
  have h1 := trips1 i
  have h2 := trips2 i
  unfold Scf.Loop.trips at h1 h2
  dsimp only at h1 h2
  sl_unfold_words
  rw [h2, st_k0_t2_zero, h1]
  rfl

end Cert.KernelIdeal.Attn
-- ==== Proof.Reads.lean ====
/-
  The attention kernel's vector operations read at an index, over the extended reals.
-/
module

public import proofs.«01_k».proof.Proof.Visit
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.WordCmp Idealize.SL.Sem

namespace Cert.KernelIdeal.Attn

open Cert.KernelIdeal Cert.KernelIdeal.Gen

/-- `log2(e)`: the reciprocal of the natural logarithm of 2. -/
def lg : ℝ := (Real.log 2)⁻¹

/-- The named constant is `log2(e)`. -/
theorem named_lg : (Named.named κ "log2e" 0x3FB8AA3B#32 : Ideal .f32) = ((lg : ℝ) : EReal) := by
  simp [Named.named, κ, lg]

/-- The named query scale is `log2(e) / 8`. -/
theorem named_qs : (Named.named κ "qscale" 0x3E38AA3B#32 : Ideal .f32) = ((8⁻¹ * lg : ℝ) : EReal) := by
  simp [Named.named, κ, lg]

/-- Softplus in base 2 of one logit. -/
def sp2 (l : EReal) : EReal := max l 0 + Ideal.log (1 + Ideal.exp2 (0 - max l (-l))) * ((lg : ℝ) : EReal)

variable (q : FVec Ideal S512x128 .bf16) (b : EReal) (kb vb : Vec Ideal S1x256x128 .bf16) (l s w : FVec Ideal S512x256 .f32)
  (cr : FVec Ideal S512x1 .f32) (tri : FVec Ideal S256x256 .bf16) (r : Fin 512) (k : Fin 256) (d : Fin 128)

/-- A logit: the query's row against the key's row, plus the bias. -/
theorem logit_at : logit q b kb (ix2 r k) = (∑ d : Fin 128, q (ix2 r d) * kb (ix3 0 k d)) + b := by
  pointwise [logit]

theorem splus_at : splus l (ix2 r k) = sp2 (l (ix2 r k)) := by
  pointwise [splus, sp2, named_lg]
  all_goals rfl

theorem wexp_at : wexp tri cr l s (ix2 r k)
    = Ideal.exp2 (l (ix2 r k) - cr (ix2 r 0) - s (ix2 r k) - ∑ j : Fin 256, s (ix2 r j) * tri (ix2 j k)) := by
  pointwise [wexp]
  rfl

theorem next_at : next cr s (ix2 r 0) = cr (ix2 r 0) + ∑ j : Fin 256, s (ix2 r j) := by
  pointwise [next]

theorem keep_at (msk : IVec S512x256 1) : keep msk l (ix2 r k) = if msk (ix2 r k) = 1#1 then l (ix2 r k) else 0 := by
  pointwise [keep]
  rfl

theorem part_at (sel : IVec S1x128 1) : part w sel vb (ix2 r d)
    = ∑ j : Fin 256, w (ix2 r j) * (if sel (ix2 0 d) = 1#1 then vb (ix3 0 j d) else 0) := by
  pointwise [part]
  refine Finset.sum_congr rfl fun j _ => ?_
  by_cases h : sel (ix2 0 d) = 1#1
  · rw [h, select_one, if_pos rfl]
  · rw [if_neg h, mul_zero]; exact if_neg h

theorem tri_at (j : Fin 256) : (k0_pay54 : FVec Ideal S256x256 .bf16) (ix2 j k) = if k < j then 1 else 0 := by
  pointwise [k0_pay54]
  rw [cmpi_sgt_ofNat (by omega) (by omega), select_ofBool]
  simp only [decide_eq_true_eq, Fin.lt_def]

theorem even_at : (k0_pay56 : IVec S1x128 1) (ix2 0 d) = if d.val < 64 then 1#1 else 0#1 := by
  revert d; decide +kernel

theorem odd_at : (k0_pay58 k0_pay53 k0_pay57 : IVec S1x128 1) (ix2 0 d) = if d.val < 64 then 0#1 else 1#1 := by
  revert d; decide +kernel

theorem maskLate_at : maskLate (ix2 r k) = if k.val + 256 < r.val then 1#1 else 0#1 := by
  pointwise [maskLate, k0_pay64]
  rw [addi_ofNat, cmpi_slt_ofNat (by omega) (by omega), ofBool_decide_eq_ite]

theorem maskEarly_at : maskEarly (ix2 r k) = if k.val < r.val then 1#1 else 0#1 := by
  pointwise [maskEarly, k0_pay65]
  rw [addi_ofNat, cmpi_slt_ofNat (by omega) (by omega), ofBool_decide_eq_ite, Nat.add_zero]

variable (x1 : Vec Ideal S1x512x128 .f32)
  (arg4 : Memref sig .tc .vmem S1x512x128 .f32) (harg4 : arg4.IsWhole)

theorem qEven_at : qEven arg4 harg4 x1 (ix2 r d) = if d.val < 64 then x1 (ix3 0 r d) * ((8⁻¹ * lg : ℝ) : EReal) else 0 := by
  unfold qEven staged4
  simp only [View.readAt_eq_ld, harg4.read_unread, View.ld_unit_zero (S := S1x512x128) hz3]
  pointwise [k0_pay55, k0_pay59, named_qs]
  rw [even_at]
  by_cases h : d.val < 64 <;> simp only [h, if_true, if_false, select_one, select_zero]

theorem qOdd_at : qOdd arg4 harg4 x1 (ix2 r d) = if d.val < 64 then 0 else x1 (ix3 0 r d) * ((8⁻¹ * lg : ℝ) : EReal) := by
  unfold qOdd staged4
  simp only [View.readAt_eq_ld, harg4.read_unread, View.ld_unit_zero (S := S1x512x128) hz3]
  pointwise [k0_pay55, k0_pay60, named_qs]
  rw [odd_at]
  by_cases h : d.val < 64 <;> simp only [h, if_true, if_false, select_one, select_zero]

variable (x0 : Vec Ideal S16 .f32) (arg3 : Memref sig .tc .smem S16 .f32) (harg3 : arg3.IsWhole) (i : grid0.Coords)

/-- The first head's bias, in base 2. -/
theorem bEven_at (h : 2 * (i 1).val < 16) : bEven i arg3 harg3 x0 = x0 (ix1 ⟨2 * (i 1).val, h⟩) * ((lg : ℝ) : EReal) := by
  unfold bEven staged3 k0_pay61
  simp only [View.readAt_eq_ld, harg3.read_unread, View.ld_apply, named_lg]
  refine congrArg (fun z => x0 z * ((lg : ℝ) : EReal)) (funext fun a => Fin.ext ?_)
  match a with
  | 0 =>
    have := congrFun (k0_off1_eq i 0) 0
    simpa using this

/-- The second head's bias, in base 2. -/
theorem bOdd_at (h : 2 * (i 1).val + 1 < 16) : bOdd i arg3 harg3 x0 = x0 (ix1 ⟨2 * (i 1).val + 1, h⟩) * ((lg : ℝ) : EReal) := by
  unfold bOdd staged3 k0_pay62
  simp only [View.readAt_eq_ld, harg3.read_unread, View.ld_apply, named_lg]
  refine congrArg (fun z => x0 z * ((lg : ℝ) : EReal)) (funext fun a => Fin.ext ?_)
  match a with
  | 0 =>
    have := congrFun (k0_off1_eq i 1) 0
    simpa using this

theorem rows_at (arg5 : Memref sig .tc .vmem S1x8192x128 .bf16) (harg5 : arg5.IsWhole) (x2 : Vec Ideal S1x8192x128 .bf16) (off : Fin 3 → ℕ) (p : ℕ)
    (h : ∀ a, off a + S1x256x128.size a ≤ S1x8192x128.size a) (ho : off = ![0, p, 0]) (hp : p + 256 ≤ 8192) :
    rows arg5 (harg5.unread x2) off h (ix3 0 k d) = x2 (ix3 0 ⟨p + k.val, by omega⟩ d) := by
  subst ho
  unfold rows
  simp only [View.readAt_eq_ld, harg5.read_unread]
  pointwise []

end Cert.KernelIdeal.Attn
-- ==== Proof.Blocks.lean ====
/-
  What one visit to a block of keys adds: the running suffix totals and the weighted sum of values,
  as sums over the keys from a position to the end.
-/
module

public import proofs.«01_k».proof.Proof.Reads

@[expose] public section

set_option maxRecDepth 16384

noncomputable section

open Idealize.ShloMosaic Idealize.ShloMosaic.TcCoe Idealize.ShloMosaic.WordCmp Idealize.SL.Sem

namespace Cert.KernelIdeal.Attn

open Cert.KernelIdeal Cert.KernelIdeal.Gen

/-- What key `s` takes from the stick of query `t`: the softplus of its logit when the key is before the query. -/
def sg (L : ℕ → EReal) (t s : ℕ) : EReal := if s < t then sp2 (L s) else 0

/-- What the keys from `p` on take. -/
def suf (L : ℕ → EReal) (t p : ℕ) : EReal := ∑ j ∈ Finset.Ico p 8192, sg L t j

/-- The weight of key `s` for query `t`. -/
def wt (L : ℕ → EReal) (t s : ℕ) : EReal := if s < t then Ideal.exp2 (L s - suf L t s) else 0

/-- Addition of two extended reals. -/
theorem addf_eq {t : FTy} (x y : Ideal t) : FloatOps.addf x y = (x + y : EReal) := rfl

theorem lg_pos : 0 < lg := inv_pos.2 (Real.log_pos one_lt_two)

theorem exp2_nonneg (x : EReal) : 0 ≤ Ideal.exp2 x := by
  induction x with
  | bot => simp
  | top => simp
  | coe r => simpa using Real.rpow_nonneg (by norm_num : (0:ℝ) ≤ 2) r

theorem log_nonneg_of_one_le {x : EReal} (h : 1 ≤ x) : 0 ≤ Ideal.log x := by
  induction x with
  | bot => exact absurd h (by decide)
  | top => simp
  | coe r =>
    have h1 : (1:ℝ) ≤ r := by exact_mod_cast h
    rw [Ideal.log_coe, if_neg (by linarith)]
    exact_mod_cast Real.log_nonneg h1

/-- A softplus is not negative. -/
theorem sp2_nonneg (l : EReal) : 0 ≤ sp2 l := by
  unfold sp2
  refine add_nonneg (le_max_right _ _) (mul_nonneg (log_nonneg_of_one_le ?_) ?_)
  · exact le_add_of_nonneg_right (exp2_nonneg _)
  · exact_mod_cast lg_pos.le

theorem sg_nonneg (L : ℕ → EReal) (t s : ℕ) : 0 ≤ sg L t s := by
  unfold sg; split
  · exact sp2_nonneg _
  · exact le_rfl

theorem suf_nonneg (L : ℕ → EReal) (t p : ℕ) : 0 ≤ suf L t p :=
  Finset.sum_nonneg fun s _ => sg_nonneg L t s

theorem ne_bot_of_nonneg {x : EReal} (h : 0 ≤ x) : x ≠ ⊥ := fun e => by simp [e] at h

/-- Amounts that are not negative can be taken off one by one or together. -/
theorem sub_sub_sub (l : EReal) {a b c : EReal} (ha : 0 ≤ a) (hb : 0 ≤ b) (hc : 0 ≤ c) : l - a - b - c = l - (a + b + c) := by
  have hab := ne_bot_of_nonneg (add_nonneg ha hb)
  rw [sub_eq_add_neg, sub_eq_add_neg, sub_eq_add_neg, sub_eq_add_neg,
    EReal.neg_add (.inl hab) (.inr (ne_bot_of_nonneg hc)),
    EReal.neg_add (.inl (ne_bot_of_nonneg ha)) (.inr (ne_bot_of_nonneg hb)), sub_eq_add_neg, sub_eq_add_neg, add_assoc, add_assoc, add_assoc]

/-- A sum over a block of 256 keys, as a sum over positions. -/
theorem sum_block (f : ℕ → EReal) (p : ℕ) : ∑ s ∈ Finset.Ico p (p + 256), f s = ∑ c : Fin 256, f (p + c.val) := by
  rw [Finset.sum_Ico_eq_sum_range, Nat.add_sub_cancel_left, Finset.sum_range]

/-- Keys from `p` on: a block and the rest. -/
theorem sum_split (f : ℕ → EReal) {p : ℕ} (hp : p + 256 ≤ 8192) :
    ∑ s ∈ Finset.Ico p 8192, f s = ∑ s ∈ Finset.Ico (p + 256) 8192, f s + ∑ c : Fin 256, f (p + c.val) := by
  rw [← Finset.sum_Ico_consecutive f (Nat.le_add_right p 256) hp, sum_block, add_comm]

section
variable {L : ℕ → EReal} {t p : ℕ} {r : Fin 512} {l s w : FVec Ideal S512x256 .f32} {cr : FVec Ideal S512x1 .f32}

/-- The carry after a block. -/
theorem next_suf (hp : p + 256 ≤ 8192) (hc : cr (ix2 r 0) = suf L t (p + 256)) (hs : ∀ c, s (ix2 r c) = sg L t (p + c.val)) :
    next cr s (ix2 r 0) = suf L t p := by
  rw [next_at, hc, suf, suf, sum_split _ hp]
  exact congrArg _ (Finset.sum_congr rfl fun c _ => hs c)

/-- What the keys from position `k` of a block on take: the carry, the key itself, and the block's later keys. -/
theorem suf_block (L : ℕ → EReal) (t : ℕ) {p : ℕ} (hp : p + 256 ≤ 8192) (k : Fin 256) :
    suf L t (p + 256) + sg L t (p + k.val) + ∑ j : Fin 256, sg L t (p + j.val) * (if k < j then 1 else 0) = suf L t (p + k.val) := by
  have e : ∑ j : Fin 256, sg L t (p + j.val) * (if k < j then 1 else 0) = ∑ s ∈ Finset.Ico (p + k.val + 1) (p + 256), sg L t s := by
    have e1 : ∑ j : Fin 256, sg L t (p + j.val) * (if k < j then 1 else 0)
        = ∑ s ∈ Finset.Ico p (p + 256), sg L t s * (if p + k.val < s then 1 else 0) := by
      rw [sum_block]
      refine Finset.sum_congr rfl fun j _ => ?_
      by_cases h : k < j
      · rw [if_pos h, if_pos (Nat.add_lt_add_left h p)]
      · rw [if_neg h, if_neg (by rw [Fin.lt_def] at h; omega)]
    rw [e1]
    refine (Finset.sum_subset (Finset.Ico_subset_Ico_left (by omega)) fun s hs hn => ?_).symm.trans (Finset.sum_congr rfl fun s hs => ?_)
    · rw [if_neg (by rw [Finset.mem_Ico] at hs hn; omega), mul_zero]
    · rw [if_pos (by rw [Finset.mem_Ico] at hs; omega), mul_one]
  have h1 := Finset.sum_Ico_consecutive (sg L t) (m := p + k.val + 1) (n := p + 256) (k := 8192) (by omega) hp
  rw [e, suf, suf, Finset.sum_eq_sum_Ico_succ_bot (by omega : p + k.val < 8192), ← h1]
  abel

/-- The weight of a key of the block. -/
theorem wexp_suf (hp : p + 256 ≤ 8192) (hl : ∀ c, l (ix2 r c) = L (p + c.val)) (hc : cr (ix2 r 0) = suf L t (p + 256))
    (hs : ∀ c, s (ix2 r c) = sg L t (p + c.val)) (k : Fin 256) :
    wexp k0_pay54 cr l s (ix2 r k) = Ideal.exp2 (L (p + k.val) - suf L t (p + k.val)) := by
  rw [wexp_at, hl, hc, hs]
  have e : ∑ j : Fin 256, s (ix2 r j) * (k0_pay54 : FVec Ideal S256x256 .bf16) (ix2 j k)
      = ∑ j : Fin 256, sg L t (p + j.val) * (if k < j then 1 else 0) :=
    Finset.sum_congr rfl fun j _ => by rw [hs, tri_at]
  rw [e, sub_sub_sub _ (suf_nonneg _ _ _) (sg_nonneg _ _ _), suf_block L t hp k]
  refine Finset.sum_nonneg fun j _ => mul_nonneg (sg_nonneg _ _ _) ?_
  split <;> simp

variable {vb : Vec Ideal S1x256x128 .bf16} {V : ℕ → Fin 128 → EReal} {d : Fin 128}

/-- A block's weighted values, in the lanes of its head. -/
theorem part_on {sel : IVec S1x128 1} (h : sel (ix2 0 d) = 1#1) (hw : ∀ c, w (ix2 r c) = wt L t (p + c.val))
    (hv : ∀ c d, vb (ix3 0 c d) = V (p + c.val) d) :
    part w sel vb (ix2 r d) = ∑ c : Fin 256, wt L t (p + c.val) * V (p + c.val) d := by
  rw [part_at]
  exact Finset.sum_congr rfl fun c _ => by rw [if_pos h, hw, hv]

/-- A block's weighted values are zero in the lanes of the other head. -/
theorem part_off {sel : IVec S1x128 1} (h : sel (ix2 0 d) = 0#1) : part w sel vb (ix2 r d) = 0 := by
  rw [part_at]
  exact Finset.sum_eq_zero fun c _ => by rw [if_neg (by rw [h]; decide), mul_zero]
end

/-- Row `r` of the carried values once the keys from `p` on have been visited. -/
structure Good (L0 L1 : ℕ → EReal) (t : ℕ) (V : ℕ → Fin 128 → EReal) (r : Fin 512) (p : ℕ) (acc : Acc Ideal) : Prop where
  c0 : acc.2.1 (ix2 r 0) = suf L0 t p
  c1 : acc.2.2 (ix2 r 0) = suf L1 t p
  out : ∀ d : Fin 128, acc.1 (ix2 r d) = ∑ s ∈ Finset.Ico p 8192, wt (if d.val < 64 then L0 else L1) t s * V s d

section
variable {L0 L1 : ℕ → EReal} {t p : ℕ} {K V : ℕ → Fin 128 → EReal} {r : Fin 512} {acc : Acc Ideal}
  {q0 q1 : FVec Ideal S512x128 .bf16} {b0 b1 : EReal} {ka va kb vb : Vec Ideal S1x256x128 .bf16}

/-- The sum over 512 keys taken as two blocks. -/
theorem sum_two (f : ℕ → EReal) (hp : p + 512 ≤ 8192) :
    ∑ s ∈ Finset.Ico p 8192, f s
      = ∑ s ∈ Finset.Ico (p + 512) 8192, f s + (∑ c : Fin 256, f (p + 256 + c.val) + ∑ c : Fin 256, f (p + c.val)) := by
  rw [sum_split f (by omega : p + 256 ≤ 8192), sum_split f (by omega : p + 256 + 256 ≤ 8192), add_assoc]

/-- One trip: two blocks of keys that lie before the query. -/
theorem trip_good (hp : p + 512 ≤ t) (ht : t ≤ 8192)
    (hL0 : ∀ s, L0 s = (∑ d : Fin 128, q0 (ix2 r d) * K s d) + b0) (hL1 : ∀ s, L1 s = (∑ d : Fin 128, q1 (ix2 r d) * K s d) + b1)
    (hka : ∀ c d, ka (ix3 0 c d) = K (p + 256 + c.val) d) (hva : ∀ c d, va (ix3 0 c d) = V (p + 256 + c.val) d)
    (hkb : ∀ c d, kb (ix3 0 c d) = K (p + c.val) d) (hvb : ∀ c d, vb (ix3 0 c d) = V (p + c.val) d)
    (h : Good L0 L1 t V r (p + 512) acc) :
    Good L0 L1 t V r p (trip k0_pay54 k0_pay56 (k0_pay58 k0_pay53 k0_pay57) q0 q1 b0 b1 ka va kb vb acc) := by
  have la0 : ∀ c, logit q0 b0 ka (ix2 r c) = L0 (p + 256 + c.val) := fun c => by simp only [logit_at, hL0, hka]
  have la1 : ∀ c, logit q1 b1 ka (ix2 r c) = L1 (p + 256 + c.val) := fun c => by simp only [logit_at, hL1, hka]
  have lb0 : ∀ c, logit q0 b0 kb (ix2 r c) = L0 (p + c.val) := fun c => by simp only [logit_at, hL0, hkb]
  have lb1 : ∀ c, logit q1 b1 kb (ix2 r c) = L1 (p + c.val) := fun c => by simp only [logit_at, hL1, hkb]
  have lt : ∀ c : Fin 256, p + c.val < t := fun c => by omega
  have lt' : ∀ c : Fin 256, p + 256 + c.val < t := fun c => by omega
  have sa0 : ∀ c, splus (logit q0 b0 ka) (ix2 r c) = sg L0 t (p + 256 + c.val) := fun c => by rw [splus_at, la0, sg, if_pos (lt' c)]
  have sa1 : ∀ c, splus (logit q1 b1 ka) (ix2 r c) = sg L1 t (p + 256 + c.val) := fun c => by rw [splus_at, la1, sg, if_pos (lt' c)]
  have sb0 : ∀ c, splus (logit q0 b0 kb) (ix2 r c) = sg L0 t (p + c.val) := fun c => by rw [splus_at, lb0, sg, if_pos (lt c)]
  have sb1 : ∀ c, splus (logit q1 b1 kb) (ix2 r c) = sg L1 t (p + c.val) := fun c => by rw [splus_at, lb1, sg, if_pos (lt c)]
  have hp1 : p + 256 + 256 ≤ 8192 := by omega
  have hp2 : p + 256 ≤ 8192 := by omega
  have n0 := next_suf hp1 h.c0 sa0
  have n1 := next_suf hp1 h.c1 sa1
  have wa0 : ∀ c, wexp k0_pay54 acc.2.1 (logit q0 b0 ka) (splus (logit q0 b0 ka)) (ix2 r c) = wt L0 t (p + 256 + c.val) :=
    fun c => by rw [wexp_suf hp1 la0 h.c0 sa0, wt, if_pos (lt' c)]
  have wa1 : ∀ c, wexp k0_pay54 acc.2.2 (logit q1 b1 ka) (splus (logit q1 b1 ka)) (ix2 r c) = wt L1 t (p + 256 + c.val) :=
    fun c => by rw [wexp_suf hp1 la1 h.c1 sa1, wt, if_pos (lt' c)]
  have wb0 : ∀ c, wexp k0_pay54 (next acc.2.1 (splus (logit q0 b0 ka))) (logit q0 b0 kb) (splus (logit q0 b0 kb)) (ix2 r c) = wt L0 t (p + c.val) :=
    fun c => by rw [wexp_suf hp2 lb0 n0 sb0, wt, if_pos (lt c)]
  have wb1 : ∀ c, wexp k0_pay54 (next acc.2.2 (splus (logit q1 b1 ka))) (logit q1 b1 kb) (splus (logit q1 b1 kb)) (ix2 r c) = wt L1 t (p + c.val) :=
    fun c => by rw [wexp_suf hp2 lb1 n1 sb1, wt, if_pos (lt c)]
  refine ⟨next_suf hp2 n0 sb0, next_suf hp2 n1 sb1, fun d => ?_⟩
  unfold trip
  simp only [addf_apply, addf_eq]
  rw [h.out d, sum_two _ (by omega : p + 512 ≤ 8192)]
  by_cases hd : d.val < 64
  · have e0 : (k0_pay56 : IVec S1x128 1) (ix2 0 d) = 1#1 := by rw [even_at, if_pos hd]
    have e1 : ((k0_pay58 k0_pay53 k0_pay57) : IVec S1x128 1) (ix2 0 d) = 0#1 := by rw [odd_at, if_pos hd]
    simp only [if_pos hd]
    rw [part_on e0 wa0 hva, part_on e0 wb0 hvb, part_off e1, part_off e1, add_zero, add_zero]
  · have e0 : (k0_pay56 : IVec S1x128 1) (ix2 0 d) = 0#1 := by rw [even_at, if_neg hd]
    have e1 : ((k0_pay58 k0_pay53 k0_pay57) : IVec S1x128 1) (ix2 0 d) = 1#1 := by rw [odd_at, if_neg hd]
    simp only [if_neg hd]
    rw [part_on e1 wa1 hva, part_on e1 wb1 hvb, part_off e0, part_off e0, zero_add, add_zero]

/-- The last two blocks of a query block's keys, with the keys that are not before the query left out. -/
theorem diag_good (hp : p + 512 ≤ 8192)
    (hL0 : ∀ s, L0 s = (∑ d : Fin 128, q0 (ix2 r d) * K s d) + b0) (hL1 : ∀ s, L1 s = (∑ d : Fin 128, q1 (ix2 r d) * K s d) + b1)
    (hka : ∀ c d, ka (ix3 0 c d) = K (p + 256 + c.val) d) (hva : ∀ c d, va (ix3 0 c d) = V (p + 256 + c.val) d)
    (hkb : ∀ c d, kb (ix3 0 c d) = K (p + c.val) d) (hvb : ∀ c d, vb (ix3 0 c d) = V (p + c.val) d)
    {z : FVec Ideal S512x1 .f32} (hz : z (ix2 r 0) = 0) :
    Good L0 L1 (p + r.val) V r p (diag k0_pay54 k0_pay56 (k0_pay58 k0_pay53 k0_pay57) q0 q1 b0 b1 maskLate maskEarly ka va kb vb z) := by
  generalize ht : p + r.val = t
  have hr := r.isLt
  have la0 : ∀ c, logit q0 b0 ka (ix2 r c) = L0 (p + 256 + c.val) := fun c => by simp only [logit_at, hL0, hka]
  have la1 : ∀ c, logit q1 b1 ka (ix2 r c) = L1 (p + 256 + c.val) := fun c => by simp only [logit_at, hL1, hka]
  have lb0 : ∀ c, logit q0 b0 kb (ix2 r c) = L0 (p + c.val) := fun c => by simp only [logit_at, hL0, hkb]
  have lb1 : ∀ c, logit q1 b1 kb (ix2 r c) = L1 (p + c.val) := fun c => by simp only [logit_at, hL1, hkb]
  have ka' : ∀ (x : FVec Ideal S512x256 .f32) (c : Fin 256), keep maskLate x (ix2 r c) = if p + 256 + c.val < t then x (ix2 r c) else 0 := fun x c => by
    rw [keep_at, maskLate_at]
    by_cases h : c.val + 256 < r.val
    · rw [if_pos h, if_pos rfl, if_pos (by omega)]
    · rw [if_neg h, if_neg (by decide), if_neg (by omega)]
  have kb' : ∀ (x : FVec Ideal S512x256 .f32) (c : Fin 256), keep maskEarly x (ix2 r c) = if p + c.val < t then x (ix2 r c) else 0 := fun x c => by
    rw [keep_at, maskEarly_at]
    by_cases h : c.val < r.val
    · rw [if_pos h, if_pos rfl, if_pos (by omega)]
    · rw [if_neg h, if_neg (by decide), if_neg (by omega)]
  have s0 : ∀ L : ℕ → EReal, suf L t (p + 512) = 0 := fun L =>
    Finset.sum_eq_zero fun j hj => by rw [sg, if_neg (by have := (Finset.mem_Ico.1 hj).1; omega)]
  have sa0 : ∀ c, keep maskLate (splus (logit q0 b0 ka)) (ix2 r c) = sg L0 t (p + 256 + c.val) := fun c => by rw [ka', splus_at, la0, sg]
  have sa1 : ∀ c, keep maskLate (splus (logit q1 b1 ka)) (ix2 r c) = sg L1 t (p + 256 + c.val) := fun c => by rw [ka', splus_at, la1, sg]
  have sb0 : ∀ c, keep maskEarly (splus (logit q0 b0 kb)) (ix2 r c) = sg L0 t (p + c.val) := fun c => by rw [kb', splus_at, lb0, sg]
  have sb1 : ∀ c, keep maskEarly (splus (logit q1 b1 kb)) (ix2 r c) = sg L1 t (p + c.val) := fun c => by rw [kb', splus_at, lb1, sg]
  have hp1 : p + 256 + 256 ≤ 8192 := by omega
  have hp2 : p + 256 ≤ 8192 := by omega
  have z0 : z (ix2 r 0) = suf L0 t (p + 256 + 256) := by rw [hz]; exact (s0 L0).symm
  have z1 : z (ix2 r 0) = suf L1 t (p + 256 + 256) := by rw [hz]; exact (s0 L1).symm
  have n0 := next_suf hp1 z0 sa0
  have n1 := next_suf hp1 z1 sa1
  have wa0 : ∀ c, keep maskLate (wexp k0_pay54 z (logit q0 b0 ka) (keep maskLate (splus (logit q0 b0 ka)))) (ix2 r c) = wt L0 t (p + 256 + c.val) :=
    fun c => by rw [ka', wexp_suf hp1 la0 z0 sa0, wt]
  have wa1 : ∀ c, keep maskLate (wexp k0_pay54 z (logit q1 b1 ka) (keep maskLate (splus (logit q1 b1 ka)))) (ix2 r c) = wt L1 t (p + 256 + c.val) :=
    fun c => by rw [ka', wexp_suf hp1 la1 z1 sa1, wt]
  have wb0 : ∀ c, keep maskEarly (wexp k0_pay54 (next z (keep maskLate (splus (logit q0 b0 ka)))) (logit q0 b0 kb) (keep maskEarly (splus (logit q0 b0 kb)))) (ix2 r c) = wt L0 t (p + c.val) :=
    fun c => by rw [kb', wexp_suf hp2 lb0 n0 sb0, wt]
  have wb1 : ∀ c, keep maskEarly (wexp k0_pay54 (next z (keep maskLate (splus (logit q1 b1 ka)))) (logit q1 b1 kb) (keep maskEarly (splus (logit q1 b1 kb)))) (ix2 r c) = wt L1 t (p + c.val) :=
    fun c => by rw [kb', wexp_suf hp2 lb1 n1 sb1, wt]
  have w0 : ∀ (L : ℕ → EReal) (f : ℕ → EReal), ∑ s ∈ Finset.Ico (p + 512) 8192, wt L t s * f s = 0 := fun L f =>
    Finset.sum_eq_zero fun j hj => by rw [wt, if_neg (by have := (Finset.mem_Ico.1 hj).1; omega), zero_mul]
  refine ⟨next_suf hp2 n0 sb0, next_suf hp2 n1 sb1, fun d => ?_⟩
  unfold diag
  simp only [addf_apply, addf_eq]
  rw [sum_two _ hp]
  by_cases hd : d.val < 64
  · have e0 : (k0_pay56 : IVec S1x128 1) (ix2 0 d) = 1#1 := by rw [even_at, if_pos hd]
    have e1 : ((k0_pay58 k0_pay53 k0_pay57) : IVec S1x128 1) (ix2 0 d) = 0#1 := by rw [odd_at, if_pos hd]
    simp only [if_pos hd]
    rw [w0 L0 (fun s => V s d), part_on e0 wa0 hva, part_on e0 wb0 hvb, part_off e1, part_off e1, add_zero, add_zero, zero_add]
  · have e0 : (k0_pay56 : IVec S1x128 1) (ix2 0 d) = 0#1 := by rw [even_at, if_neg hd]
    have e1 : ((k0_pay58 k0_pay53 k0_pay57) : IVec S1x128 1) (ix2 0 d) = 1#1 := by rw [odd_at, if_neg hd]
    simp only [if_neg hd]
    rw [w0 L1 (fun s => V s d), part_on e1 wa1 hva, part_on e1 wb1 hvb, part_off e0, part_off e0, zero_add, add_zero, zero_add]
end

end Cert.KernelIdeal.Attn
-- ==== Proof.Body.lean ====
/-
  The kernel body's output block at an index: every key's weight times its value, summed over the keys.
-/
module

public import proofs.«01_k».proof.Proof.Blocks

@[expose] public section

set_option maxRecDepth 16384

noncomputable section

open Idealize.ShloMosaic Idealize.ShloMosaic.TcCoe Idealize.ShloMosaic.WordCmp Idealize.SL.Sem

namespace Cert.KernelIdeal.Attn

open Cert.KernelIdeal Cert.KernelIdeal.Gen

/-- Row `s` of a block of keys (zero past the last key). -/
def keyAt (x : Vec Ideal S1x8192x128 .bf16) (s : ℕ) (d : Fin 128) : EReal := if h : s < 8192 then x (ix3 0 ⟨s, h⟩ d) else 0

/-- The even head's logits: only the first 64 lanes of the query count. -/
def lgEven (x1 : Vec Ideal S1x512x128 .f32) (x2 : Vec Ideal S1x8192x128 .bf16) (b : EReal) (r : Fin 512) (s : ℕ) : EReal :=
  (∑ d : Fin 128, (if d.val < 64 then x1 (ix3 0 r d) * ((8⁻¹ * lg : ℝ) : EReal) else 0) * keyAt x2 s d) + b * ((lg : ℝ) : EReal)

/-- The odd head's logits: only the last 64 lanes of the query count. -/
def lgOdd (x1 : Vec Ideal S1x512x128 .f32) (x2 : Vec Ideal S1x8192x128 .bf16) (b : EReal) (r : Fin 512) (s : ℕ) : EReal :=
  (∑ d : Fin 128, (if d.val < 64 then 0 else x1 (ix3 0 r d) * ((8⁻¹ * lg : ℝ) : EReal)) * keyAt x2 s d) + b * ((lg : ℝ) : EReal)

variable (c : Dev nD) (i : grid0.Coords)
  (arg3 : Memref sig .tc .smem S16 .f32) (harg3 : arg3.IsWhole)
  (arg4 : Memref sig .tc .vmem S1x512x128 .f32) (harg4 : arg4.IsWhole)
  (arg5 : Memref sig .tc .vmem S1x8192x128 .bf16) (harg5 : arg5.IsWhole)
  (arg6 : Memref sig .tc .vmem S1x8192x128 .bf16) (harg6 : arg6.IsWhole)
  (arg7 : Memref sig .tc .vmem S1x512x128 .f32) (harg7 : arg7.IsWhole)
  (x0 : Vec Ideal S16 .f32) (x1 : Vec Ideal S1x512x128 .f32) (x2 x3 : Vec Ideal S1x8192x128 .bf16)

/-- A 256-row load starting at row `p`. -/
theorem rows_keyAt (arg5 : Memref sig .tc .vmem S1x8192x128 .bf16) (harg5 : arg5.IsWhole) (x2 : Vec Ideal S1x8192x128 .bf16) (off : Fin 3 → ℕ) (p : ℕ)
    (h : ∀ a, off a + S1x256x128.size a ≤ S1x8192x128.size a) (ho : off = ![0, p, 0]) (hp : p + 256 ≤ 8192) (k : Fin 256) (d : Fin 128) :
    rows arg5 (harg5.unread x2) off h (ix3 0 k d) = keyAt x2 (p + k.val) d := by
  rw [rows_at k d arg5 harg5 x2 off p h ho hp, keyAt, dif_pos (by omega)]

theorem lt8 (i : grid0.Coords) : (i 1).val < 8 := (i 1).isLt
theorem lt16 (i : grid0.Coords) : (i 2).val < 16 := (i 2).isLt

/-- The two heads' biases. -/
abbrev bias0 : EReal := x0 (ix1 ⟨2 * (i 1).val, by have := lt8 i; omega⟩)
abbrev bias1 : EReal := x0 (ix1 ⟨2 * (i 1).val + 1, by have := lt8 i; omega⟩)

/-- After `n` trips the keys from `512 (i - n)` on have been visited. -/
theorem carried_good (r : Fin 512) : ∀ n ≤ (i 2).val,
    Good (lgEven x1 x2 (bias0 i x0) r) (lgOdd x1 x2 (bias1 i x0) r) (512 * (i 2).val + r.val) (keyAt x3) r (512 * ((i 2).val - n))
      (carried c i arg3 harg3 arg4 harg4 arg5 harg5 arg6 harg6 arg7 harg7 x0 x1 x2 x3 n) := by
  have h8 := lt8 i
  have h16 := lt16 i
  have hr := r.isLt
  have h0 : ∀ s, lgEven x1 x2 (bias0 i x0) r s = (∑ d : Fin 128, qEven arg4 harg4 x1 (ix2 r d) * keyAt x2 s d) + bEven i arg3 harg3 x0 := fun s => by
    rw [bEven_at x0 arg3 harg3 i (by omega), lgEven]
    exact congrArg (· + _) (Finset.sum_congr rfl fun d _ => by rw [qEven_at])
  have h1 : ∀ s, lgOdd x1 x2 (bias1 i x0) r s = (∑ d : Fin 128, qOdd arg4 harg4 x1 (ix2 r d) * keyAt x2 s d) + bOdd i arg3 harg3 x0 := fun s => by
    rw [bOdd_at x0 arg3 harg3 i (by omega), lgOdd]
    exact congrArg (· + _) (Finset.sum_congr rfl fun d _ => by rw [qOdd_at])
  intro n
  induction n with
  | zero =>
    intro _
    have ha : k0_off2 i 1#32 = ![0, 512 * (i 2).val + 256, 0] := k0_off2_eq i 1
    have hb : k0_off2 i 0#32 = ![0, 512 * (i 2).val, 0] := k0_off2_eq i 0
    refine diag_good (K := keyAt x2) (by omega) h0 h1 ?_ ?_ ?_ ?_ ?_
    · exact rows_keyAt arg5 harg5 x2 _ _ _ ha (by omega)
    · exact rows_keyAt arg6 harg6 x3 _ _ _ ha (by omega)
    · exact rows_keyAt arg5 harg5 x2 _ _ _ hb (by omega)
    · exact rows_keyAt arg6 harg6 x3 _ _ _ hb (by omega)
    · pointwise [k0_pay63]
  | succ n ih =>
    intro hn
    have g := ih (by omega)
    let k : Fin (k0_t1_loop i).trips := ⟨n, by rw [trips1]; omega⟩
    have ha : k0_off3 i k 0#32 = ![0, 512 * ((i 2).val - (n + 1)) + 256, 0] :=
      (off3_eq i k 0).trans (by show ![0, 512 * ((i 2).val - n) - 256 * 1, 0] = _; congr 2; omega)
    have hb : k0_off3 i k 1#32 = ![0, 512 * ((i 2).val - (n + 1)), 0] :=
      (off3_eq i k 1).trans (by show ![0, 512 * ((i 2).val - n) - 256 * 2, 0] = _; congr 2; omega)
    unfold carried
    rw [show n + 1 = k.val + 1 from rfl, st_k0_t1_succ, trip_eq]
    refine trip_good (K := keyAt x2) (by omega) (by omega) h0 h1 ?_ ?_ ?_ ?_ ?_
    · exact rows_keyAt arg5 harg5 x2 _ _ _ ha (by omega)
    · exact rows_keyAt arg6 harg6 x3 _ _ _ ha (by omega)
    · exact rows_keyAt arg5 harg5 x2 _ _ _ hb (by omega)
    · exact rows_keyAt arg6 harg6 x3 _ _ _ hb (by omega)
    · have e : 512 * ((i 2).val - (n + 1)) + 512 = 512 * ((i 2).val - n) := by omega
      rw [e]; exact g

/-- The output block at row `r`, lane `d`. -/
theorem out_at (r : Fin 512) (d : Fin 128) :
    out0_A_4 c i arg3 harg3 arg4 harg4 arg5 harg5 arg6 harg6 arg7 harg7 x0 x1 x2 x3 (ix3 0 r d)
      = ∑ s ∈ Finset.Ico 0 8192, wt (if d.val < 64 then lgEven x1 x2 (bias0 i x0) r else lgOdd x1 x2 (bias1 i x0) r)
          (512 * (i 2).val + r.val) s * keyAt x3 s d := by
  have g := (carried_good c i arg3 harg3 arg4 harg4 arg5 harg5 arg6 harg6 arg7 harg7 x0 x1 x2 x3 r (i 2).val le_rfl).out d
  rw [out_eq]
  generalize carried c i arg3 harg3 arg4 harg4 arg5 harg5 arg6 harg6 arg7 harg7 x0 x1 x2 x3 (i 2).val = acc at g ⊢
  rw [Nat.sub_self, Nat.mul_zero] at g
  rw [← g]
  pointwise [k0_pay4]

end Cert.KernelIdeal.Attn
-- ==== Proof.RefRead.lean ====
/-
  The reference's result as a composition of whole-array operations, and each of them read at an index.
-/
module

public import proofs.«01_k».proof.Proof.Gen.ReferenceIdeal.Run
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.ShloMosaic.WordCmp Idealize.SL.Sem

namespace Cert.ReferenceIdeal.Attn

open Cert.ReferenceIdeal Cert.ReferenceIdeal.Gen

/-- The logits array. -/
def logits (q k : FVec Ideal S2x8192x1024 .f32) (b : FVec Ideal S16 .f32) : FVec Ideal S2x16x8192x8192 .f32 :=
  addf (mulf (Host.dotGeneral dot_S2x8192x16x64_S2x8192x16x64_S2x16x8192x8192_3_3_1_1_02_02 none (shapeCast S2x8192x16x64 q shapeCasts_S2x8192x1024_S2x8192x16x64)
      (shapeCast S2x8192x16x64 k shapeCasts_S2x8192x1024_S2x8192x16x64))
      (broadcastInDim S2x16x8192x8192 ![] bcast_S_S2x16x8192x8192 (constant S_ .f32 0x3E000000#32)))
    (broadcastInDim S2x16x8192x8192 ![0, 1, 2, 3] bcast_S1x16x1x1_S2x16x8192x8192_0_1_2_3 (broadcastInDim S1x16x1x1 ![1] bcast_S16_S1x16x1x1_1 b))

/-- Which keys come before each query. -/
def before : IVec S2x16x8192x8192 1 :=
  broadcastInDim S2x16x8192x8192 ![2, 3] bcast_S8192x8192_S2x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- An array of zeros. -/
def zeros : FVec Ideal S2x16x8192x8192 .f32 := broadcastInDim S2x16x8192x8192 ![] bcast_S_S2x16x8192x8192 (constant S_ .f32 0x00000000#32)

/-- The softplus of an array. -/
def soft (x : FVec Ideal S2x16x8192x8192 .f32) : FVec Ideal S2x16x8192x8192 .f32 :=
  select (cmpf .une (subf x zeros) (subf x zeros)) (addf x zeros) (addf (maximumf x zeros) (Host.log1p (Host.exp (Host.negf (Host.absf (subf x zeros))))))

/-- The log of what each key before the query leaves. -/
def left (L : FVec Ideal S2x16x8192x8192 .f32) : FVec Ideal S2x16x8192x8192 .f32 :=
  select before (Host.negf (soft (Host.negf (Host.negf L)))) zeros

/-- The sums from each key to the last. -/
def sums (u : FVec Ideal S2x16x8192x8192 .f32) : FVec Ideal S2x16x8192x8192 .f32 :=
  Host.reduceWindowAdd ![1, 1, 1, 8192] ![1, 1, 1, 1] ![0, 0, 0, 0] ![0, 0, 0, 8191] u (broadcastInDim S_ ![] bcast_S_S_ (constant S_ .f32 0x00000000#32)) reduceWindows_S2x16x8192x8192_S2x16x8192x8192_w1s1p0_0_w1s1p0_0_w1s1p0_0_w8192s1p0_8191 h_S_

/-- The weights array. -/
def weights (L : FVec Ideal S2x16x8192x8192 .f32) : FVec Ideal S2x16x8192x8192 .f32 :=
  select before (Host.exp (addf (Host.negf (soft (Host.negf L))) (subf (sums (left L)) (left L)))) zeros

/-- The weighted values, as the result array. -/
def result (v : FVec Ideal S2x8192x1024 .f32) (A : FVec Ideal S2x16x8192x8192 .f32) : FVec Ideal S2x8192x1024 .f32 :=
  shapeCast S2x8192x1024 (transpose S2x8192x16x64 [0, 3, 1, 2] (Host.dotGeneral dot_S2x8192x16x64_S2x16x8192x8192_S2x16x64x8192_1_3_3_2_02_01 none
    (shapeCast S2x8192x16x64 v shapeCasts_S2x8192x1024_S2x8192x16x64) A) transposes_S2x16x64x8192_S2x8192x16x64_0_3_1_2) shapeCasts_S2x8192x16x64_S2x8192x1024

/-- The program's result, in these terms. -/
theorem res_eq (m : (ℓ : Loc nD τ sig) → Buf (Elt Ideal) ℓ) (c : Dev nD) :
    Cert.ReferenceIdeal.Value.res_main_v26 m c
      = result (m ((c.tc : Thread nD τ).loc main_arg2)) (weights (logits (m ((c.tc : Thread nD τ).loc main_arg0)) (m ((c.tc : Thread nD τ).loc main_arg1)) (m ((c.tc : Thread nD τ).loc main_arg3)))) := by
  unfold Cert.ReferenceIdeal.Value.res_main_v26 result weights left sums soft zeros before logits
  rfl

variable (q k v : FVec Ideal S2x8192x1024 .f32) (bias : FVec Ideal S16 .f32) (L x A : FVec Ideal S2x16x8192x8192 .f32)
  (b : Fin 2) (h : Fin 16) (t s : Fin 8192) (e : Fin 64)

theorem eighth : Ideal.ofBits .f32 1040187392#32 = ((8⁻¹ : ℝ) : EReal) := by
  simp [Ideal.ofBits, Ideal.ieee, -EReal.coe_mul]; norm_num

/-- A logit of the reference. -/
theorem logits_at : logits q k bias (ix4 b h t s)
    = (∑ e : Fin 64, q (ix3 b t ⟨h.val * 64 + e.val, by omega⟩) * k (ix3 b s ⟨h.val * 64 + e.val, by omega⟩)) * (((8⁻¹ : ℝ)) : EReal) + bias (ix1 h) := by
  pointwise [logits]
  rw [eighth]

/-- A key counts when it is strictly before the query. -/
theorem before_at : before (ix4 b h t s) = if s.val < t.val then 1#1 else 0#1 := by
  pointwise [before]
  rw [cmpi_slt_ofNat (by omega) (by omega), ofBool_decide_eq_ite]

/-- Softplus of one number, from natural exponential and logarithm. -/
def spe (x : EReal) : EReal := max x 0 + Ideal.log (1 + Ideal.exp (-(max x (-x))))

theorem soft_at (j : S2x16x8192x8192.Idx) : soft x j = spe (x j) := by
  pointwise [soft, zeros]
  rw [if_neg (not_not.2 rfl)]
  rfl

/-- The result array's element of a head is the head's weights against its values. -/
theorem result_at : result v A (ix3 b t ⟨h.val * 64 + e.val, by omega⟩)
    = ∑ s : Fin 8192, v (ix3 b s ⟨h.val * 64 + e.val, by omega⟩) * A (ix4 b h t s) := by
  pointwise [result]

theorem foldl_add {α : Type} (f : α → EReal) : ∀ (l : List α) (v : EReal), l.foldl (fun r n => r + f n) v = v + (l.map f).sum
  | [], v => by simp
  | a :: l, v => by simp [foldl_add f l, add_assoc]

/-- A one-axis window's places, as the numbers along the axis. -/
theorem sum_window (g : (⟨4, ![1, 1, 1, 8192]⟩ : Shape).Idx → EReal) : ∑ x, g x = ∑ w : Fin 8192, g (ix4 0 0 0 w) := by
  refine (Function.Bijective.sum_comp (e := fun w : Fin 8192 => (ix4 0 0 0 w : (⟨4, ![1, 1, 1, 8192]⟩ : Shape).Idx)) ⟨fun a b h => ?_, fun x => ?_⟩ g).symm
  · exact congrFun h 3
  · exact ⟨x 3, by idx_vars x; funext a; fin_cases a <;> first | rfl | exact Subsingleton.elim (α := Fin 1) _ _⟩

theorem sums_at (u : FVec Ideal S2x16x8192x8192 .f32) :
    sums u (ix4 b h t s) = ∑ w : Fin 8192, if hw : s.val + w.val < 8192 then u (ix4 b h t ⟨s.val + w.val, hw⟩) else 0 := by
  unfold sums Host.reduceWindowAdd
  rw [Ideal.hostReduceWindowAdd_def]
  unfold Ideal.hostReduceWindowAdd Host.reduceWindow
  dsimp only
  rw [foldl_add]
  have hv : broadcastInDim S_ ![] bcast_S_S_ (constant (F := Ideal) S_ .f32 0x00000000#32) (Shape.Idx.first h_S_) = (0 : EReal) := by
    pointwise []
  rw [hv, zero_add, ← Fin.sum_univ_def]
  refine Eq.trans ?_ ((Equiv.sum_comp (Shape.rowMajor (⟨4, ![1, 1, 1, 8192]⟩ : Shape)).symm
    (fun x => if hw : s.val + (x 3).val < 8192 then u (ix4 b h t ⟨s.val + (x 3).val, hw⟩) else (0 : EReal))).trans (sum_window _))
  refine Finset.sum_congr rfl fun n _ => ?_
  have x0 : ((Shape.rowMajor (⟨4, ![1, 1, 1, 8192]⟩ : Shape)).symm n 0).val = 0 := Nat.lt_one_iff.1 ((Shape.rowMajor (⟨4, ![1, 1, 1, 8192]⟩ : Shape)).symm n 0).isLt
  have x1 : ((Shape.rowMajor (⟨4, ![1, 1, 1, 8192]⟩ : Shape)).symm n 1).val = 0 := Nat.lt_one_iff.1 ((Shape.rowMajor (⟨4, ![1, 1, 1, 8192]⟩ : Shape)).symm n 1).isLt
  have x2 : ((Shape.rowMajor (⟨4, ![1, 1, 1, 8192]⟩ : Shape)).symm n 2).val = 0 := Nat.lt_one_iff.1 ((Shape.rowMajor (⟨4, ![1, 1, 1, 8192]⟩ : Shape)).symm n 2).isLt
  by_cases hw : s.val + ((Shape.rowMajor (⟨4, ![1, 1, 1, 8192]⟩ : Shape)).symm n 3).val < 8192
  · rw [dif_pos hw, dif_pos (by
      intro a; fin_cases a
      · have := b.isLt; simp [x0]; omega
      · have := h.isLt; simp [x1]
      · have := t.isLt; simp [x2]
      · simpa using hw)]
    refine congrArg u (funext fun a => Fin.ext ?_)
    fin_cases a <;> simp [x0, x1, x2]
  · rw [dif_neg hw, dif_neg (fun hin => hw (by simpa using (hin 3).2))]

end Cert.ReferenceIdeal.Attn
-- ==== Proof.Scalar.lean ====
/-
  One query's weights: the base-2 weights of scaled logits are the natural weights of the logits.
-/
module

public import proofs.«01_k».proof.Proof.Blocks
public import proofs.«01_k».proof.Proof.RefRead

@[expose] public section

set_option maxRecDepth 16384

noncomputable section

open Idealize.ShloMosaic

namespace Cert.Attn

open Cert.KernelIdeal.Attn (lg sp2 sg suf wt lg_pos sp2_nonneg sg_nonneg suf_nonneg ne_bot_of_nonneg exp2_nonneg log_nonneg_of_one_le)
open Cert.ReferenceIdeal.Attn (spe)

/-- A positive real multiplier goes through a sum. -/
theorem mul_add_real {a : ℝ} (ha : 0 < a) (x y : EReal) : (a : EReal) * (x + y) = a * x + a * y :=
  EReal.left_distrib_of_nonneg_of_ne_top (by exact_mod_cast ha.le) (EReal.coe_ne_top a) x y

/-- A positive real multiplier goes through a finite sum. -/
theorem mul_sum_real {a : ℝ} (ha : 0 < a) {ι : Type} (S : Finset ι) (f : ι → EReal) : (a : EReal) * ∑ i ∈ S, f i = ∑ i ∈ S, (a : EReal) * f i := by
  classical
  induction S using Finset.induction_on with
  | empty => simp
  | insert i S hi ih => rw [Finset.sum_insert hi, Finset.sum_insert hi, mul_add_real ha, ih]

/-- A sum of amounts that are not negative, negated. -/
theorem neg_sum {ι : Type} (S : Finset ι) (f : ι → EReal) (h : ∀ i, 0 ≤ f i) : ∑ i ∈ S, -f i = -∑ i ∈ S, f i := by
  classical
  induction S using Finset.induction_on with
  | empty => simp
  | insert i S hi ih =>
    rw [Finset.sum_insert hi, Finset.sum_insert hi, ih,
      EReal.neg_add (.inl (ne_bot_of_nonneg (h i))) (.inr (ne_bot_of_nonneg (Finset.sum_nonneg fun i _ => h i))), sub_eq_add_neg]

/-- A power of two with exponent times `log2(e)` is the exponential. -/
theorem exp2_lg (y : EReal) : Ideal.exp2 (((lg : ℝ) : EReal) * y) = Ideal.exp y := by
  induction y with
  | bot => rw [EReal.coe_mul_bot_of_pos lg_pos, Ideal.exp2_bot, Ideal.exp_bot]
  | top => rw [EReal.coe_mul_top_of_pos lg_pos, Ideal.exp2_top, Ideal.exp_top]
  | coe r =>
    rw [← EReal.coe_mul, Ideal.exp2_coe, Ideal.exp_coe]
    congr 1
    show (2:ℝ) ^ (lg * r) = _
    rw [Real.rpow_def_of_pos two_pos, ← mul_assoc, lg, mul_inv_cancel₀ (Real.log_pos one_lt_two).ne', one_mul]

theorem exp_nonneg (x : EReal) : 0 ≤ Ideal.exp x := by rw [← exp2_lg]; exact exp2_nonneg _

/-- The correction term of a softplus at a real. -/
def corr (r : ℝ) : ℝ := Real.log (1 + Real.exp (-max r (-r)))

theorem spe_bot : spe ⊥ = 0 := by
  unfold spe
  rw [EReal.neg_bot, max_eq_right bot_le, max_eq_right bot_le, EReal.neg_top, Ideal.exp_bot, add_zero, zero_add]
  show Ideal.log ((1:ℝ) : EReal) = 0
  rw [Ideal.log_coe, if_neg (by norm_num), Real.log_one]; rfl

theorem log_ne_bot {x : EReal} (h : 1 ≤ x) : Ideal.log x ≠ ⊥ := ne_bot_of_nonneg (log_nonneg_of_one_le h)

theorem spe_top : spe ⊤ = ⊤ := by
  unfold spe
  rw [max_eq_left le_top, EReal.top_add_of_ne_bot]
  exact log_ne_bot (le_add_of_nonneg_right (exp_nonneg _))

theorem spe_coe (r : ℝ) : spe (r : EReal) = ((max r 0 + corr r : ℝ) : EReal) := by
  unfold spe corr
  have h1 : max (r : EReal) (-(r : EReal)) = ((max r (-r) : ℝ) : EReal) := by rw [← EReal.coe_neg]; exact (EReal.coe_strictMono.monotone.map_max).symm
  have h2 : max (r : EReal) 0 = ((max r 0 : ℝ) : EReal) := (EReal.coe_strictMono.monotone.map_max (a := r) (b := 0)).symm
  have hpos : 0 < 1 + Real.exp (-max r (-r)) := by positivity
  rw [h1, h2, ← EReal.coe_neg, Ideal.exp_coe, ← EReal.coe_one, ← EReal.coe_add, Ideal.log_coe, if_neg (not_le.2 hpos), ← EReal.coe_add]

/-- A softplus is not negative. -/
theorem spe_nonneg (x : EReal) : 0 ≤ spe x :=
  add_nonneg (le_max_right _ _) (log_nonneg_of_one_le (le_add_of_nonneg_right (exp_nonneg _)))

/-- The base-2 softplus of a scaled logit is the scaled softplus. -/
theorem sp2_lg (x : EReal) : sp2 (((lg : ℝ) : EReal) * x) = ((lg : ℝ) : EReal) * spe x := by
  have h0 : Ideal.log (1 + 0) = 0 := by
    rw [add_zero]
    show Ideal.log ((1:ℝ) : EReal) = 0
    rw [Ideal.log_coe, if_neg (by norm_num), Real.log_one]; rfl
  induction x with
  | bot =>
    rw [EReal.coe_mul_bot_of_pos lg_pos, spe_bot, mul_zero, sp2, EReal.neg_bot, max_eq_right bot_le, max_eq_right bot_le, zero_sub, EReal.neg_top,
      Ideal.exp2_bot, h0, zero_mul, add_zero]
  | top =>
    rw [EReal.coe_mul_top_of_pos lg_pos, spe_top, EReal.coe_mul_top_of_pos lg_pos, sp2, EReal.neg_top, max_eq_left bot_le, max_eq_left le_top, zero_sub,
      EReal.neg_top, Ideal.exp2_bot, h0, zero_mul, add_zero]
  | coe r =>
    have h1 : max ((lg * r : ℝ) : EReal) (-((lg * r : ℝ) : EReal)) = ((lg * max r (-r) : ℝ) : EReal) := by
      rw [← EReal.coe_neg, mul_max_of_nonneg _ _ lg_pos.le, mul_neg]
      exact (EReal.coe_strictMono.monotone.map_max).symm
    have h2 : max ((lg * r : ℝ) : EReal) 0 = ((lg * max r 0 : ℝ) : EReal) := by
      rw [mul_max_of_nonneg _ _ lg_pos.le, mul_zero]
      exact (EReal.coe_strictMono.monotone.map_max (a := lg * r) (b := 0)).symm
    have hpos : 0 < 1 + Real.exp (-max r (-r)) := by positivity
    have h3 : Ideal.exp2 ((lg * -max r (-r) : ℝ) : EReal) = ((Real.exp (-max r (-r)) : ℝ) : EReal) := by
      rw [EReal.coe_mul lg, exp2_lg, Ideal.exp_coe]
    rw [spe_coe, ← EReal.coe_mul, sp2, h1, h2, zero_sub, ← EReal.coe_neg, ← mul_neg, h3, ← EReal.coe_one,
      ← EReal.coe_add, Ideal.log_coe, if_neg (not_le.2 hpos), ← EReal.coe_mul, ← EReal.coe_mul, ← EReal.coe_add, mul_add, corr, mul_comm lg (Real.log _)]

/-- Softplus at a number less softplus at its negation is the number. -/
theorem spe_neg_coe (r : ℝ) : max r 0 + corr r - (max (-r) 0 + corr (-r)) = r := by
  have : corr (-r) = corr r := by unfold corr; rw [neg_neg, max_comm]
  rw [this]
  rcases le_total r 0 with h | h
  · rw [max_eq_right h, max_eq_left (by linarith)]; ring
  · rw [max_eq_left h, max_eq_right (by linarith)]; ring

/-- The exponent of a weight: the logit less everything its key and the later keys take is the log of the key's share
    plus what the later keys leave. -/
theorem exponent (l G : EReal) (hG : 0 ≤ G) : l - (spe l + G) = -spe (-l) + (-(spe l + G) - -spe l) := by
  induction l with
  | bot => rw [EReal.neg_bot, spe_top, EReal.neg_top, EReal.bot_add, EReal.bot_sub]
  | top =>
    rw [EReal.neg_top, spe_bot, spe_top, EReal.top_add_of_ne_bot (ne_bot_of_nonneg hG), EReal.neg_top, neg_zero, zero_add,
      sub_eq_add_neg, sub_eq_add_neg, EReal.neg_top, EReal.neg_bot, EReal.add_bot, EReal.bot_add]
  | coe r =>
    rw [← EReal.coe_neg, spe_coe, spe_coe]
    have h := spe_neg_coe r
    induction G with
    | bot => exact absurd rfl (ne_bot_of_nonneg hG)
    | top => rw [EReal.coe_add_top, EReal.neg_top, sub_eq_add_neg, EReal.neg_top, EReal.add_bot, sub_eq_add_neg, EReal.bot_add, EReal.add_bot]
    | coe g =>
      norm_cast
      linarith

/-- What key `s` takes, in natural units. -/
def gs (L : ℕ → EReal) (t s : ℕ) : EReal := if s < t then spe (L s) else 0

theorem gs_nonneg (L : ℕ → EReal) (t s : ℕ) : 0 ≤ gs L t s := by
  unfold gs; split
  · exact spe_nonneg _
  · exact le_rfl

/-- The log of what key `s` leaves. -/
def us (L : ℕ → EReal) (t s : ℕ) : EReal := if s < t then -spe (- -L s) else 0

theorem us_eq (L : ℕ → EReal) (t s : ℕ) : us L t s = -gs L t s := by
  unfold us gs; split
  · rw [neg_neg]
  · rw [neg_zero]

/-- The weight of key `s` in natural units. -/
def wn (L : ℕ → EReal) (t s : ℕ) : EReal :=
  if s < t then Ideal.exp (-spe (-L s) + ((∑ j ∈ Finset.Ico s 8192, us L t j) - us L t s)) else 0

/-- Base-2 weights of logits scaled by `log2(e)` are the natural weights. -/
theorem wt_eq {K L : ℕ → EReal} {t : ℕ} (ht : t ≤ 8192) (h : ∀ s < t, K s = ((lg : ℝ) : EReal) * L s) (s : ℕ) : wt K t s = wn L t s := by
  unfold wt wn
  by_cases hs : s < t
  · rw [if_pos hs, if_pos hs, ← exp2_lg]
    have hsg : ∀ j, sg K t j = ((lg : ℝ) : EReal) * gs L t j := fun j => by
      unfold sg gs
      by_cases hj : j < t
      · rw [if_pos hj, if_pos hj, h j hj, sp2_lg]
      · rw [if_neg hj, if_neg hj, mul_zero]
    have hsuf : suf K t s = ((lg : ℝ) : EReal) * ∑ j ∈ Finset.Ico s 8192, gs L t j := by
      rw [mul_sum_real lg_pos]
      exact Finset.sum_congr rfl fun j _ => hsg j
    have hus : ∑ j ∈ Finset.Ico s 8192, us L t j = -∑ j ∈ Finset.Ico s 8192, gs L t j := by
      rw [← neg_sum _ _ (gs_nonneg L t)]
      exact Finset.sum_congr rfl fun j _ => us_eq L t j
    have hg : gs L t s = spe (L s) := if_pos hs
    rw [h s hs, hsuf, hus, us_eq, hg, Finset.sum_eq_sum_Ico_succ_bot (by omega : s < 8192), hg,
      ← exponent _ _ (Finset.sum_nonneg fun j _ => gs_nonneg L t j), sub_eq_add_neg, ← mul_neg, ← mul_add_real lg_pos, ← sub_eq_add_neg]
  · rw [if_neg hs, if_neg hs]

end Cert.Attn
-- ==== Proof.RefWeights.lean ====
/-
  The reference's weights array at an index, and one head's logits as the kernel and the reference form them.
-/
module

public import proofs.«01_k».proof.Proof.Scalar
public import proofs.«01_k».proof.Proof.Body

@[expose] public section

set_option maxRecDepth 16384

noncomputable section

open Idealize.ShloMosaic Idealize.ShloMosaic.TcCoe Idealize.ShloMosaic.WordCmp

namespace Cert.Attn

open Cert.ReferenceIdeal.Attn

/-- One query's row of an array over keys, as a function of the key's position. -/
def row (L : FVec Ideal Cert.ReferenceIdeal.S2x16x8192x8192 .f32) (b : Fin 2) (h : Fin 16) (t : Fin 8192) (s : ℕ) : EReal :=
  if hs : s < 8192 then L (ix4 b h t ⟨s, hs⟩) else 0

variable (L : FVec Ideal Cert.ReferenceIdeal.S2x16x8192x8192 .f32) (b : Fin 2) (h : Fin 16) (t : Fin 8192)

/-- The log of what a key leaves, at an index. -/
theorem left_at (s : Fin 8192) : left L (ix4 b h t s) = us (row L b h t) t.val s.val := by
  have e : left L (ix4 b h t s) = Scalar.select (before (ix4 b h t s)) (-(soft (Host.negf (Host.negf L)) (ix4 b h t s)) : EReal) 0 := by
    pointwise [left, zeros]
  rw [e, before_at, soft_at]
  unfold us row
  rw [dif_pos s.isLt]
  by_cases hs : s.val < t.val
  · rw [if_pos hs, if_pos hs]; pointwise []
  · rw [if_neg hs, if_neg hs]; rfl

/-- A sum over the keys from `s` on, by distance from `s`. -/
theorem sum_from (f : ℕ → EReal) (s : Fin 8192) :
    ∑ w : Fin 8192, (if s.val + w.val < 8192 then f (s.val + w.val) else 0) = ∑ j ∈ Finset.Ico s.val 8192, f j := by
  rw [Finset.sum_Ico_eq_sum_range, ← Finset.sum_range (n := 8192) (f := fun w => if s.val + w < 8192 then f (s.val + w) else 0)]
  have hs := s.isLt
  refine (Finset.sum_subset (Finset.range_subset_range.2 (by omega : 8192 - s.val ≤ 8192)) fun w _ hw => ?_).symm.trans (Finset.sum_congr rfl fun w hw => ?_)
  · rw [Finset.mem_range] at hw; exact if_neg (by omega)
  · rw [Finset.mem_range] at hw; exact if_pos (by omega)

/-- The sums from a key to the last, at an index. -/
theorem sums_left_at (s : Fin 8192) : sums (left L) (ix4 b h t s) = ∑ j ∈ Finset.Ico s.val 8192, us (row L b h t) t.val j := by
  rw [sums_at, ← sum_from]
  refine Finset.sum_congr rfl fun w _ => ?_
  by_cases hw : s.val + w.val < 8192
  · rw [dif_pos hw, if_pos hw, left_at]
  · rw [dif_neg hw, if_neg hw]

/-- A weight of the reference. -/
theorem weights_at (s : Fin 8192) : weights L (ix4 b h t s) = wn (row L b h t) t.val s.val := by
  have e : weights L (ix4 b h t s) = Scalar.select (before (ix4 b h t s))
      (Ideal.exp (-(soft (Host.negf L) (ix4 b h t s)) + (sums (left L) (ix4 b h t s) - left L (ix4 b h t s))) : EReal) 0 := by
    pointwise [weights, zeros]
  rw [e, before_at, soft_at, sums_left_at, left_at]
  unfold wn
  by_cases hs : s.val < t.val
  · rw [if_pos hs, if_pos hs]
    have hr : row L b h t s.val = L (ix4 b h t s) := dif_pos s.isLt
    rw [hr]
    pointwise []
  · rw [if_neg hs, if_neg hs]; rfl

/-- The result array at an index, over key positions. -/
theorem result_weights_at (v : FVec Ideal Cert.ReferenceIdeal.S2x8192x1024 .f32) (e : Fin 64) (V : ℕ → EReal)
    (hV : ∀ s : Fin 8192, V s.val = v (ix3 b s ⟨h.val * 64 + e.val, by omega⟩)) :
    result v (weights L) (ix3 b t ⟨h.val * 64 + e.val, by omega⟩) = ∑ s ∈ Finset.Ico 0 8192, wn (row L b h t) t.val s * V s := by
  rw [result_at, Nat.Ico_zero_eq_range, Finset.sum_range]
  exact Finset.sum_congr rfl fun s _ => by rw [weights_at, hV, mul_comm]

/-- A sum over 128 lanes, as two sums over 64. -/
theorem sum_lanes (f : Fin 128 → EReal) : ∑ d : Fin 128, f d = ∑ e : Fin 64, f ⟨e.val, by omega⟩ + ∑ e : Fin 64, f ⟨64 + e.val, by omega⟩ :=
  Fin.sum_univ_add (a := 64) (b := 64) f

/-- A query scaled by `log2(e) / 8` against a key, plus the bias in base 2, is `log2(e)` times the logit. -/
theorem scaled_logit (q k : Fin 64 → EReal) (b : EReal) :
    (∑ e : Fin 64, q e * ((8⁻¹ * Cert.KernelIdeal.Attn.lg : ℝ) : EReal) * k e) + b * ((Cert.KernelIdeal.Attn.lg : ℝ) : EReal)
      = ((Cert.KernelIdeal.Attn.lg : ℝ) : EReal) * ((∑ e : Fin 64, q e * k e) * ((8⁻¹ : ℝ) : EReal) + b) := by
  have hp := Cert.KernelIdeal.Attn.lg_pos
  have h8 : (0 : ℝ) < 8⁻¹ * Cert.KernelIdeal.Attn.lg := mul_pos (by norm_num) hp
  rw [mul_add_real hp, mul_comm b]
  congr 1
  rw [mul_comm (∑ e, q e * k e), ← mul_assoc, ← EReal.coe_mul, mul_comm Cert.KernelIdeal.Attn.lg, mul_sum_real h8]
  exact Finset.sum_congr rfl fun e _ => by rw [mul_comm (q e), mul_assoc]

open Cert.KernelIdeal.Attn (lgEven lgOdd keyAt lg)

variable (x1 : Vec Ideal Cert.KernelIdeal.S1x512x128 .f32) (x2 : Vec Ideal Cert.KernelIdeal.S1x8192x128 .bf16) (bb : EReal) (r : Fin 512) (s : ℕ) (q k : Fin 64 → EReal)

/-- The even head's logit is `log2(e)` times the reference's. -/
theorem lgEven_eq (hq : ∀ e : Fin 64, x1 (ix3 0 r ⟨e.val, by omega⟩) = q e) (hk : ∀ e : Fin 64, keyAt x2 s ⟨e.val, by omega⟩ = k e) :
    lgEven x1 x2 bb r s = ((lg : ℝ) : EReal) * ((∑ e : Fin 64, q e * k e) * ((8⁻¹ : ℝ) : EReal) + bb) := by
  rw [← scaled_logit, lgEven, sum_lanes]
  congr 1
  have h2 : ∑ e : Fin 64, (if (⟨64 + e.val, by omega⟩ : Fin 128).val < 64 then x1 (ix3 0 r ⟨64 + e.val, by omega⟩) * ((8⁻¹ * lg : ℝ) : EReal) else 0) * keyAt x2 s ⟨64 + e.val, by omega⟩ = 0 :=
    Finset.sum_eq_zero fun e _ => by rw [if_neg (by simp), zero_mul]
  rw [h2, add_zero]
  exact Finset.sum_congr rfl fun e _ => by rw [if_pos e.isLt, hq, hk]

/-- The odd head's logit is `log2(e)` times the reference's. -/
theorem lgOdd_eq (hq : ∀ e : Fin 64, x1 (ix3 0 r ⟨64 + e.val, by omega⟩) = q e) (hk : ∀ e : Fin 64, keyAt x2 s ⟨64 + e.val, by omega⟩ = k e) :
    lgOdd x1 x2 bb r s = ((lg : ℝ) : EReal) * ((∑ e : Fin 64, q e * k e) * ((8⁻¹ : ℝ) : EReal) + bb) := by
  rw [← scaled_logit, lgOdd, sum_lanes]
  congr 1
  have h2 : ∑ e : Fin 64, (if (⟨e.val, by omega⟩ : Fin 128).val < 64 then 0 else x1 (ix3 0 r ⟨e.val, by omega⟩) * ((8⁻¹ * lg : ℝ) : EReal)) * keyAt x2 s ⟨e.val, by omega⟩ = 0 :=
    Finset.sum_eq_zero fun e _ => by rw [if_pos e.isLt, zero_mul]
  rw [h2, zero_add]
  exact Finset.sum_congr rfl fun e _ => by rw [if_neg (by simp), hq, hk]

end Cert.Attn
-- ==== Proof.Arrays.lean ====
/-
  The kernel's output array after the run is the reference's result.
-/
module

public import proofs.«01_k».proof.Proof.Body
public import proofs.«01_k».proof.Proof.RefWeights
public import proofs.«01_k».proof.Proof.Gen.KernelIdeal.Value
public import Idealize.ShloMosaic.Lib.Claim

@[expose] public section

set_option maxRecDepth 16384

noncomputable section

open Idealize.ShloMosaic Idealize.ShloMosaic.TcCoe Idealize.ShloMosaic.WordCmp Idealize.SL.Sem

namespace Cert.KernelIdeal.Attn

open Cert.KernelIdeal Cert.KernelIdeal.Gen

/-- The block indices of every window at a grid point. -/
theorem idx : ∀ t : Fin cfg0.N,
    win0_0.index t = ![0] ∧ win0_1.index t = ![(grid0.coords t 0).val, (grid0.coords t 2).val, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, (grid0.coords t 2).val, (grid0.coords t 1).val] :=
  (by decide +kernel : ∀ t : Fin grid0.N, _)

theorem lt2 (i : grid0.Coords) : (i 0).val < 2 := (i 0).isLt

variable (m : (ℓ : Loc nD τ sig) → Buf (Elt Ideal) ℓ) (c : Dev nD) (t : Fin cfg0.N)

/-- The queries at launch. -/
abbrev argQ : FVec Ideal S2x8192x1024 .f32 := m ((c.tc : Thread nD τ).loc main_arg0)
/-- The keys at launch. -/
abbrev argK : FVec Ideal S2x8192x1024 .f32 := m ((c.tc : Thread nD τ).loc main_arg1)
/-- The values at launch. -/
abbrev argV : FVec Ideal S2x8192x1024 .f32 := m ((c.tc : Thread nD τ).loc main_arg2)
/-- The biases at launch. -/
abbrev argB : FVec Ideal S16 .f32 := m ((c.tc : Thread nD τ).loc main_arg3)

/-- The staged biases are the bias argument. -/
theorem bias_read (j : Fin 16) : (iblk m c 0 t : Vec Ideal S16 .f32) (ix1 j) = argB m c (ix1 j) := by
  blk_ext [iblk, V, idx t]

/-- A staged query is the query argument's element. -/
theorem q_read (r : Fin 512) (d : Fin 128) : (iblk m c 1 t : Vec Ideal S1x512x128 .f32) (ix3 0 r d)
    = argQ m c (ix3 ⟨(grid0.coords t 0).val, lt2 _⟩ ⟨512 * (grid0.coords t 2).val + r.val, by have := lt16 (grid0.coords t); omega⟩
        ⟨128 * (grid0.coords t 1).val + d.val, by have := lt8 (grid0.coords t); omega⟩) := by
  blk_ext [iblk, V, idx t]

/-- A staged key is the key argument's element. -/
theorem k_read (s : Fin 8192) (d : Fin 128) : (iblk m c 2 t : Vec Ideal S1x8192x128 .bf16) (ix3 0 s d)
    = argK m c (ix3 ⟨(grid0.coords t 0).val, lt2 _⟩ s
        ⟨128 * (grid0.coords t 1).val + d.val, by have := lt8 (grid0.coords t); omega⟩) := by
  blk_simp [iblk, idx t]
  entry_read
  pointwise []
  blk_ext [idx t]

/-- A staged value is the value argument's element. -/
theorem v_read (s : Fin 8192) (d : Fin 128) : (iblk m c 3 t : Vec Ideal S1x8192x128 .bf16) (ix3 0 s d)
    = argV m c (ix3 ⟨(grid0.coords t 0).val, lt2 _⟩ s
        ⟨128 * (grid0.coords t 1).val + d.val, by have := lt8 (grid0.coords t); omega⟩) := by
  blk_simp [iblk, idx t]
  entry_read
  pointwise []
  blk_ext [idx t]

variable (G : FVec Ideal S2x8192x1024 .f32)

theorem final_of (h : ∀ t (r : Fin 512) (d : Fin 128),
    out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix3 0 r d)
    = G (ix3 ⟨(grid0.coords t 0).val, lt2 _⟩ ⟨512 * (grid0.coords t 2).val + r.val, by have := lt16 (grid0.coords t); omega⟩
        ⟨128 * (grid0.coords t 1).val + d.val, by have := lt8 (grid0.coords t); omega⟩)) :
    (dats m 0 c).arrAt 4 cfg0.N = G := by
  refine (dats m 0 c).arrAt_eq_of_covers 4 G (by decide +kernel) fun t hf y => ?_
  blk_simp
  rw [after0_4]
  unfold outsAt0
  idx_vars y
  have e : ((cfg0.win 4).blk t).view.emb (ix3 y0 y1 y2 : S1x512x128.Idx)
      = (ix3 ⟨(grid0.coords t 0).val, lt2 _⟩ ⟨512 * (grid0.coords t 2).val + y1.val, by have := lt16 (grid0.coords t); omega⟩
        ⟨128 * (grid0.coords t 1).val + y2.val, by have := lt8 (grid0.coords t); omega⟩ : S2x8192x1024.Idx) := by
    blk_ext [idx t]
  obtain rfl : y0 = 0 := Subsingleton.elim _ _
  exact (h t y1 y2).trans (congrArg G e.symm)

open Cert.Attn Cert.ReferenceIdeal.Attn

/-- The output block at a grid point is the reference's result there. -/
theorem point (r : Fin 512) (d : Fin 128) :
    out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix3 0 r d)
    = result (argV m c) (weights (logits (argQ m c) (argK m c) (argB m c)))
        (ix3 ⟨(grid0.coords t 0).val, lt2 _⟩ ⟨512 * (grid0.coords t 2).val + r.val, by have := lt16 (grid0.coords t); omega⟩
        ⟨128 * (grid0.coords t 1).val + d.val, by have := lt8 (grid0.coords t); omega⟩) := by
  have h8 := lt8 (grid0.coords t)
  have h16 := lt16 (grid0.coords t)
  have hr := r.isLt
  rw [out_at]
  have kat : ∀ (s : Fin 8192) (d : Fin 128), keyAt (iblk m c 2 t) s.val d = argK m c (ix3 ⟨(grid0.coords t 0).val, lt2 _⟩ s
        ⟨128 * (grid0.coords t 1).val + d.val, by omega⟩) := fun s d => by
    rw [keyAt, dif_pos s.isLt]; exact k_read m c t s d
  have vat : ∀ (s : Fin 8192) (d : Fin 128), keyAt (iblk m c 3 t) s.val d = argV m c (ix3 ⟨(grid0.coords t 0).val, lt2 _⟩ s
        ⟨128 * (grid0.coords t 1).val + d.val, by omega⟩) := fun s d => by
    rw [keyAt, dif_pos s.isLt]; exact v_read m c t s d
  by_cases hd : d.val < 64
  · have ef : (⟨128 * (grid0.coords t 1).val + d.val, by omega⟩ : Fin 1024) = ⟨(⟨2 * (grid0.coords t 1).val, by omega⟩ : Fin 16).val * 64 + (⟨d.val, hd⟩ : Fin 64).val, by dsimp only; omega⟩ :=
      Fin.ext (by dsimp only; omega)
    rw [ef, result_weights_at _ _ _ _ _ _ (fun s => keyAt (iblk m c 3 t) s d) (fun s => (vat s d).trans (by rw [ef])), if_pos hd]
    refine Finset.sum_congr rfl fun s _ => congrArg (· * _) (wt_eq (by omega) (fun s hs => ?_) s)
    have hs' : s < 8192 := by omega
    rw [row, dif_pos hs', logits_at]
    rw [lgEven_eq _ _ _ r s (fun e => argQ m c (ix3 ⟨(grid0.coords t 0).val, lt2 _⟩ ⟨512 * (grid0.coords t 2).val + r.val, by omega⟩ ⟨2 * (grid0.coords t 1).val * 64 + e.val, by omega⟩))
      (fun e => argK m c (ix3 ⟨(grid0.coords t 0).val, lt2 _⟩ ⟨s, hs'⟩ ⟨2 * (grid0.coords t 1).val * 64 + e.val, by omega⟩)) ?_ ?_]
    · rw [bias0, bias_read]
    · intro e
      rw [q_read]
      congr 2
      exact Fin.ext (by dsimp only; omega)
    · intro e
      rw [kat ⟨s, hs'⟩]
      congr 2
      exact Fin.ext (by dsimp only; omega)
  · have ef : (⟨128 * (grid0.coords t 1).val + d.val, by omega⟩ : Fin 1024) = ⟨(⟨2 * (grid0.coords t 1).val + 1, by omega⟩ : Fin 16).val * 64 + (⟨d.val - 64, by omega⟩ : Fin 64).val, by dsimp only; omega⟩ :=
      Fin.ext (by dsimp only; omega)
    rw [ef, result_weights_at _ _ _ _ _ _ (fun s => keyAt (iblk m c 3 t) s d) (fun s => (vat s d).trans (by rw [ef])), if_neg hd]
    refine Finset.sum_congr rfl fun s _ => congrArg (· * _) (wt_eq (by omega) (fun s hs => ?_) s)
    have hs' : s < 8192 := by omega
    rw [row, dif_pos hs', logits_at]
    rw [lgOdd_eq _ _ _ r s (fun e => argQ m c (ix3 ⟨(grid0.coords t 0).val, lt2 _⟩ ⟨512 * (grid0.coords t 2).val + r.val, by omega⟩ ⟨(2 * (grid0.coords t 1).val + 1) * 64 + e.val, by omega⟩))
      (fun e => argK m c (ix3 ⟨(grid0.coords t 0).val, lt2 _⟩ ⟨s, hs'⟩ ⟨(2 * (grid0.coords t 1).val + 1) * 64 + e.val, by omega⟩)) ?_ ?_]
    · rw [bias1, bias_read]
    · intro e
      rw [q_read]
      congr 2
      exact Fin.ext (by dsimp only; omega)
    · intro e
      rw [kat ⟨s, hs'⟩]
      congr 2
      exact Fin.ext (by dsimp only; omega)

/-- The output array after the run is the reference's result. -/
theorem final : (dats m 0 c).arrAt 4 cfg0.N = result (argV m c) (weights (logits (argQ m c) (argK m c) (argB m c))) :=
  final_of m c _ fun t r d => point m c t r d

end Cert.KernelIdeal.Attn
-- ==== Proof.Claims.lean ====
/-
  The claims of the attention: each program's run, put beside the other's.
-/
module

public import proofs.«01_k».proof.Defs
public import proofs.«01_k».proof.Proof.Arrays
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run

@[expose] public section

noncomputable section

open Idealize.ShloMosaic Idealize.SL.Sem

namespace Cert.Attn.Claims

/-- The kernel terminates without a fault and leaves its arguments and every semaphore as they were. -/
theorem frame_kernel : Cert.quiescent_Kernel := fun m ρ _ => Cert.Kernel.Gen.frame m ρ

/-- The same of its idealization. -/
theorem frame_ideal : Cert.quiescent_KernelIdeal := fun m ρ _ => Cert.KernelIdeal.Gen.frame m ρ

/-- The same of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are the reals `log2(e) / 8` and `log2(e)`. -/
theorem preserves : Cert.preserves_Kernel_KernelIdeal :=
  ⟨IdealRules.named_const.statement Cert.KernelIdeal.κ "qscale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl⟩

/-- Over the extended reals the kernel's result is the reference's, from the same arguments. -/
theorem algebraic : Cert.algebraic_KernelIdeal_ReferenceIdeal := by
  intro m ρ m' ρ' _ hagree
  refine ⟨fun c => Cert.ReferenceIdeal.Value.res_main_v26 m' c, ?_, Cert.ReferenceIdeal.Value.run (F := Ideal) m' ρ'⟩
  refine (θ_run Cert.KernelIdeal.defs _ _).mono (fun _ h c => ⟨(h c).1.trans ?_, (h c).2⟩) (Cert.KernelIdeal.Value.run_blocks (F := Ideal) m ρ)
  show _ = Cert.ReferenceIdeal.Value.res_main_v26 m' c
  rw [Cert.KernelIdeal.Attn.final, Cert.ReferenceIdeal.Attn.res_eq, (hagree c).1, (hagree c).2.1, (hagree c).2.2.1, (hagree c).2.2.2]

end Cert.Attn.Claims

end
-- ==== Proof.Rows.lean ====
/-
  The row-wise functions that the layer's ends share: the root-mean-square norm and the sigmoid.
-/
module

public import Idealize.ShloMosaic.Lib.Pointwise

@[expose] public section

noncomputable section

open Idealize.ShloMosaic

namespace Cert.Rows

/-- A row's element over the root of the row's mean square, times a gain: 1149239296 is 1024 and 897988541 the small number added under the root. -/
def nrm (x : Fin 1024 → EReal) (g : EReal) (d : Fin 1024) : EReal :=
  x d * Ideal.rsqrt (Ideal.div (∑ j, x j * x j) (Ideal.ofBits .f32 1149239296#32) + Ideal.ofBits .f32 897988541#32) * g

/-- The sigmoid. -/
def sgm (x : EReal) : EReal := Ideal.div 1 (1 + Ideal.exp (-x))

/-- A hidden row with the normed projection of the gated branch added. -/
def joined (h y z : Fin 1024 → EReal) (w : Fin 1024 → Fin 1024 → EReal) (g : Fin 1024 → EReal) (d : Fin 1024) : EReal :=
  h d + nrm (fun k => ∑ j, y j * z j * w j k) (g d) d

/-- A joined row with the gated embedding added. -/
def ended (h y z : Fin 1024 → EReal) (p : Fin 256 → EReal) (w : Fin 1024 → Fin 1024 → EReal) (g : Fin 1024 → EReal)
    (wp : Fin 256 → Fin 1024 → EReal) (wg : Fin 1024 → Fin 1024 → EReal) (d : Fin 1024) : EReal :=
  joined h y z w g d + (∑ k, p k * wp k d) * sgm (∑ j, joined h y z w g j * wg j d)

end Cert.Rows

end
-- ==== Proof.TailRead.lean ====
/-
  The layer's end: what the block the kernel writes holds at an index, from the blocks it reads.
-/
module

public import proofs.«01_k».proof.Proof.Rows
public import proofs.«01_k».proof.Proof.Gen.Kernel2Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel2Ideal.Tail

open Cert.Kernel2Ideal Cert.Kernel2Ideal.Gen Cert.Rows

section
variable (h y z : Vec Ideal S256x1024 .f32) (p : Vec Ideal S256x256 .f32) (w : Vec Ideal S1024x1024 .bf16) (g : Vec Ideal S1x1024 .f32)
  (wp : Vec Ideal S256x1024 .bf16) (wg : Vec Ideal S1024x1024 .bf16) (r : Fin 256) (d : Fin 1024)

/-- A joined row of a block. -/
abbrev joinedRow : Fin 1024 → EReal :=
  joined (fun j => h (ix2 r j)) (fun j => y (ix2 r j)) (fun j => z (ix2 r j)) (fun j k => w (ix2 j k)) (fun j => g (ix2 0 j))

/-- A row of a block with the branch joined. -/
theorem joined_at : k0_pay2 y z h w g (ix2 r d) = joinedRow h y z w g r d := by
  pointwise [k0_pay2]
  rfl

/-- The gate of the embedding. -/
theorem gate_at : k0_pay3 y z h w g wg (ix2 r d) = sgm (∑ j, joinedRow h y z w g r j * wg (ix2 j d)) := by
  pointwise [k0_pay3]
  simp only [joined_at, zero_sub]
  rfl

/-- The block's last sum. -/
theorem last_at (x s : FVec Ideal S256x1024 .f32) (q : FVec Ideal S256x256 .bf16) :
    k0_pay1 x s q wp (ix2 r d) = x (ix2 r d) + (∑ k, q (ix2 r k) * wp (ix2 k d)) * s (ix2 r d) := by
  pointwise [k0_pay1]

theorem hz2 : (![0, 0] : Fin 2 → ℕ) = fun _ => 0 := by decide

/-- What the body leaves. -/
theorem out_at : out0_8 h y z p w g wp wg (ix2 r d)
    = ended (fun j => h (ix2 r j)) (fun j => y (ix2 r j)) (fun j => z (ix2 r j)) (fun k => p (ix2 r k)) (fun j k => w (ix2 j k))
        (fun j => g (ix2 0 j)) (fun k j => wp (ix2 k j)) (fun j k => wg (ix2 j k)) d := by
  unfold out0_8
  rw [View.canon_unit_zero (S := S256x1024) hz2]
  simp only [View.ld_unit_zero (S := S256x1024) hz2, View.ld_unit_zero (S := S1024x1024) hz2, View.ld_unit_zero (S := S1x1024) hz2,
    View.ld_unit_zero (S := S256x256) hz2]
  rw [last_at, joined_at, gate_at]
  rfl
end

end Cert.Kernel2Ideal.Tail

end
-- ==== Proof.TailRef.lean ====
/-
  The layer's end in the reference, as a composition of whole-array operations, and each of them read at an index.
-/
module

public import proofs.«01_k».proof.Proof.Rows
public import proofs.«01_k».proof.Proof.Gen.Reference2Ideal
public import proofs.«01_k».proof.Proof.Gen.Reference2Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference2Ideal.Tail

open Cert.Reference2Ideal Cert.Reference2Ideal.Gen Cert.Rows

section
variable (h y z : FVec Ideal S16384x1024 .f32) (p : FVec Ideal S16384x256 .f32) (w : FVec Ideal S1024x1024 .f32) (g : FVec Ideal S1024 .f32)
  (wp : FVec Ideal S256x1024 .f32) (wg : FVec Ideal S1024x1024 .f32) (x : FVec Ideal S16384x1024 .f32) (r : Fin 16384) (d : Fin 1024)

/-- The projection of the gated branch. -/
def branch : FVec Ideal S16384x1024 .f32 := Host.dotGeneral dot_S16384x1024_S1024x1024_S16384x1024_1_0_0_1_n_n none (mulf y z) w

/-- The normed rows. -/
def normed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The hidden state with the branch joined. -/
def withBranch : FVec Ideal S16384x1024 .f32 := addf h (normed g (branch y z w))

/-- The gates of the embedding. -/
def gates : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none x wg))))

/-- The result. -/
def result : FVec Ideal S16384x1024 .f32 :=
  addf (withBranch h y z w g) (mulf (Host.dotGeneral dot_S16384x256_S256x1024_S16384x1024_1_0_0_1_n_n none p wp) (gates wg (withBranch h y z w g)))

theorem normed_at : normed g x (ix2 r d) = nrm (fun j => x (ix2 r j)) (g (ix1 d)) d := by
  pointwise [normed]
  rfl

theorem branch_at : branch y z w (ix2 r d) = ∑ j, y (ix2 r j) * z (ix2 r j) * w (ix2 j d) := by
  pointwise [branch]

theorem withBranch_at : withBranch h y z w g (ix2 r d)
    = joined (fun j => h (ix2 r j)) (fun j => y (ix2 r j)) (fun j => z (ix2 r j)) (fun j k => w (ix2 j k)) (fun j => g (ix1 j)) d := by
  pointwise [withBranch]
  rw [normed_at]
  simp only [branch_at]
  rfl

theorem gates_at : gates wg x (ix2 r d) = sgm (∑ j, x (ix2 r j) * wg (ix2 j d)) := by
  pointwise [gates]
  rfl

theorem result_at : result h y z p w g wp wg (ix2 r d)
    = ended (fun j => h (ix2 r j)) (fun j => y (ix2 r j)) (fun j => z (ix2 r j)) (fun k => p (ix2 r k)) (fun j k => w (ix2 j k))
        (fun j => g (ix1 j)) (fun k j => wp (ix2 k j)) (fun j k => wg (ix2 j k)) d := by
  pointwise [result]
  rw [gates_at]
  simp only [withBranch_at]
  rfl
end

/-- The result of the arguments at launch. -/
abbrev resultOf (m : (ℓ : Loc nD τ sig) → Buf (Elt Ideal) ℓ) (c : Dev nD) : FVec Ideal S16384x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

end Cert.Reference2Ideal.Tail

end
-- ==== Proof.TailArrays.lean ====
/-
  The layer's end: the array after the kernel's run is the reference's result.
-/
module

public import proofs.«01_k».proof.Proof.TailRead
public import proofs.«01_k».proof.Proof.TailRef

@[expose] public section

set_option maxRecDepth 16384

noncomputable section

open Idealize.ShloMosaic Idealize.ShloMosaic.TcCoe Idealize.SL.Sem

namespace Cert.Kernel2Ideal.Tail

open Cert.Kernel2Ideal Cert.Kernel2Ideal.Gen Cert.Rows

/-- The block indices of every window at a grid point: a block of rows, and the whole of each weight. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

theorem lt64 (t : Fin cfg0.N) : t.val < 64 := t.isLt

variable (m : (ℓ : Loc nD τ sig) → Buf (Elt Ideal) ℓ) (c : Dev nD) (t : Fin cfg0.N)

/-- The hidden state at launch. -/
abbrev argH : FVec Ideal S16384x1024 .f32 := m ((c.tc : Thread nD τ).loc main_arg0)
/-- The branch's output at launch. -/
abbrev argY : FVec Ideal S16384x1024 .f32 := m ((c.tc : Thread nD τ).loc main_arg1)
/-- The branch's gates at launch. -/
abbrev argZ : FVec Ideal S16384x1024 .f32 := m ((c.tc : Thread nD τ).loc main_arg2)
/-- The embeddings at launch. -/
abbrev argP : FVec Ideal S16384x256 .f32 := m ((c.tc : Thread nD τ).loc main_arg3)
/-- The branch's output weights at launch. -/
abbrev argW : FVec Ideal S1024x1024 .f32 := m ((c.tc : Thread nD τ).loc main_arg4)
/-- The gains at launch. -/
abbrev argG : FVec Ideal S1024 .f32 := m ((c.tc : Thread nD τ).loc main_arg5)
/-- The embeddings' weights at launch. -/
abbrev argWp : FVec Ideal S256x1024 .f32 := m ((c.tc : Thread nD τ).loc main_arg6)
/-- The gate weights at launch. -/
abbrev argWg : FVec Ideal S1024x1024 .f32 := m ((c.tc : Thread nD τ).loc main_arg7)

/-- A row of a block of rows, as a row of the array. -/
abbrev rowOf (r : Fin 256) : Fin 16384 := ⟨256 * t.val + r.val, by have := lt64 t; omega⟩

/-- Each staged block of rows is those rows of its argument. -/
theorem row_read (r : Fin 256) (d : Fin 1024) :
    (iblk m c 0 t : Vec Ideal S256x1024 .f32) (ix2 r d) = argH m c (ix2 (rowOf t r) d)
    ∧ (iblk m c 1 t : Vec Ideal S256x1024 .f32) (ix2 r d) = argY m c (ix2 (rowOf t r) d)
    ∧ (iblk m c 2 t : Vec Ideal S256x1024 .f32) (ix2 r d) = argZ m c (ix2 (rowOf t r) d) := by
  refine ⟨?_, ?_, ?_⟩ <;> blk_ext [iblk, V, idx t]

theorem p_read (r k : Fin 256) : (iblk m c 3 t : Vec Ideal S256x256 .f32) (ix2 r k) = argP m c (ix2 (rowOf t r) k) := by
  blk_ext [iblk, V, idx t]

/-- The staged gains are the gains. -/
theorem g_read (d : Fin 1024) : (iblk m c 5 t : Vec Ideal S1x1024 .f32) (ix2 0 d) = argG m c (ix1 d) := by
  blk_simp [iblk, idx t]
  entry_read
  pointwise []
  blk_ext [idx t]

/-- The staged weights are the weights. -/
theorem w_read (j k : Fin 1024) : (iblk m c 4 t : Vec Ideal S1024x1024 .bf16) (ix2 j k) = argW m c (ix2 j k) := by
  blk_simp [iblk, idx t]
  entry_read
  pointwise []
  blk_ext [idx t]

theorem wp_read (k : Fin 256) (j : Fin 1024) : (iblk m c 6 t : Vec Ideal S256x1024 .bf16) (ix2 k j) = argWp m c (ix2 k j) := by
  blk_simp [iblk, idx t]
  entry_read
  pointwise []
  blk_ext [idx t]

theorem wg_read (j k : Fin 1024) : (iblk m c 7 t : Vec Ideal S1024x1024 .bf16) (ix2 j k) = argWg m c (ix2 j k) := by
  blk_simp [iblk, idx t]
  entry_read
  pointwise []
  blk_ext [idx t]

open Cert.Reference2Ideal.Tail

/-- The output array after the run is the reference's result. -/
theorem final : (dats m 0 c).arrAt 8 cfg0.N = result (argH m c) (argY m c) (argZ m c) (argP m c) (argW m c) (argG m c) (argWp m c) (argWg m c) := by
  refine (dats m 0 c).arrAt_eq_of_covers 8 _ (by decide +kernel) fun t hf y => ?_
  blk_simp
  rw [after0_8]
  idx_vars y
  have e : ((cfg0.win 8).blk t).view.emb (ix2 y0 y1 : S256x1024.Idx) = (ix2 (rowOf t y0) y1 : S16384x1024.Idx) := by
    blk_ext [idx t]
  refine Eq.trans ?_ (congrArg (result (argH m c) (argY m c) (argZ m c) (argP m c) (argW m c) (argG m c) (argWp m c) (argWg m c)) e.symm)
  rw [out_at, result_at]
  simp only [fun d => (row_read m c t y0 d).1, fun d => (row_read m c t y0 d).2.1, fun d => (row_read m c t y0 d).2.2,
    p_read, g_read, w_read, wp_read, wg_read]

end Cert.Kernel2Ideal.Tail

end
-- ==== Proof.TailClaims.lean ====
/-
  The claims of the layer's end: each program's run, put beside the other's.
-/
module

public import proofs.«01_k».proof.Defs
public import proofs.«01_k».proof.Proof.TailArrays
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal

@[expose] public section

noncomputable section

open Idealize.ShloMosaic Idealize.SL.Sem

namespace Cert.Tail.Claims

/-- The kernel terminates without a fault and leaves its arguments and every semaphore as they were. -/
theorem frame_kernel : Cert.quiescent_Kernel2 := fun m ρ _ => Cert.Kernel2.Gen.frame m ρ

/-- The same of its idealization. -/
theorem frame_ideal : Cert.quiescent_Kernel2Ideal := fun m ρ _ => Cert.Kernel2Ideal.Gen.frame m ρ

/-- The same of the reference, which declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Tail.run m ρ)

/-- The idealization is the kernel, with no operation replaced. -/
theorem preserves : Cert.preserves_Kernel2_Kernel2Ideal := trivial

/-- Over the extended reals the kernel's result is the reference's, from the same arguments. -/
theorem algebraic : Cert.algebraic_Kernel2Ideal_Reference2Ideal := by
  intro m ρ m' ρ' _ hagree
  refine ⟨fun c => Cert.Reference2Ideal.Tail.resultOf m' c, ?_, Cert.Reference2Ideal.Tail.run m' ρ'⟩
  refine (θ_run Cert.Kernel2Ideal.defs _ _).mono (fun _ h c => ⟨(h c).1.trans ?_, (h c).2⟩) (Cert.Kernel2Ideal.Value.run_blocks (F := Ideal) m ρ)
  show _ = Cert.Reference2Ideal.Tail.resultOf m' c
  obtain ⟨h0, h1, h2, h3, h4, h5, h6, h7⟩ := hagree c
  unfold Cert.Reference2Ideal.Tail.resultOf
  rw [Cert.Kernel2Ideal.Tail.final, h0, h1, h2, h3, h4, h5, h6, h7]

end Cert.Tail.Claims

end
-- ==== Proof.ProjRead.lean ====
/-
  The projections' kernel: what each block it writes holds at an index, from the blocks it reads.
-/
module

public import proofs.«01_k».proof.Proof.Rows
public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.Rows

/-- The scale of the queries. -/
def qs : EReal := ((8⁻¹ * (Real.log 2)⁻¹ : ℝ) : EReal)

theorem named_qs : (Named.named κ "qscale" 1043900987#32 : Ideal .f32) = qs := by
  unfold qs
  exact IdealRules.named_const.ideal_named_scalar _ _ _ _ rfl

section
variable (h : Vec Ideal S256x1024 .f32) (g : Vec Ideal S1x1024 .f32) (x : FVec Ideal S256x1024 .bf16) (w : Vec Ideal S1024x1024 .bf16) (r : Fin 256) (d : Fin 1024)

/-- A normed row. -/
theorem normed_at : k0_pay4 h g (ix2 r d) = nrm (fun j => h (ix2 r j)) (g (ix2 0 d)) d := by
  pointwise [k0_pay4]
  rfl

/-- A query. -/
theorem q_at : k0_pay5 h g w (ix2 r d)
    = (∑ j, nrm (fun j => h (ix2 r j)) (g (ix2 0 j)) j * w (ix2 j d)) * qs := by
  pointwise [k0_pay5]
  rw [named_qs]
  simp only [normed_at]

/-- A key, channel first. -/
theorem kt_at : k0_pay1 x w (ix3 0 d r) = ∑ j, x (ix2 r j) * w (ix2 d j) := by
  pointwise [k0_pay1]
  exact Finset.sum_congr rfl fun j _ => mul_comm _ _

/-- A value, channel first. -/
theorem vt_at : k0_pay2 x w (ix3 0 d r) = ∑ j, x (ix2 r j) * w (ix2 d j) := by
  pointwise [k0_pay2]
  exact Finset.sum_congr rfl fun j _ => mul_comm _ _

/-- A gate. -/
theorem gz_at : k0_pay3 x w (ix2 r d) = (∑ j, x (ix2 r j) * w (ix2 j d)) * sgm (∑ j, x (ix2 r j) * w (ix2 j d)) := by
  pointwise [k0_pay3]
  unfold sgm
  rw [zero_sub]

/-- A key, rounded. -/
theorem kb_at : k0_pay6 h g w (ix2 r d) = ∑ j, nrm (fun j => h (ix2 r j)) (g (ix2 0 j)) j * w (ix2 j d) := by
  pointwise [k0_pay6]
  simp only [normed_at]

/-- A value, rounded. -/
theorem vb_at : k0_pay7 h g w (ix2 r d) = ∑ j, nrm (fun j => h (ix2 r j)) (g (ix2 0 j)) j * w (ix2 j d) := by
  pointwise [k0_pay7]
  simp only [normed_at]
end

section
variable (h : Vec Ideal S256x1024 .f32) (g : Vec Ideal S1x1024 .f32) (w : Vec Ideal S1024x4096 .bf16) (wt : Vec Ideal S2048x1024 .bf16) (r : Fin 256) (d : Fin 1024)

/-- Column `e` of the weights against a normed row. -/
def dotRow (e : Fin 4096) : EReal := ∑ j, nrm (fun j => h (ix2 r j)) (g (ix2 0 j)) j * w (ix2 j e)

/-- Row `e` of the turned weights against a normed row. -/
def dotRowT (e : Fin 2048) : EReal := ∑ j, nrm (fun j => h (ix2 r j)) (g (ix2 0 j)) j * wt (ix2 e j)

theorem hz2 : (![0, 0] : Fin 2 → ℕ) = fun _ => 0 := by decide
theorem hz3 : (![0, 0, 0] : Fin 3 → ℕ) = fun _ => 0 := by decide

theorem ld_h : View.ld h r0_0 = h := View.ld_unit_zero (S := S256x1024) hz2 _ _
theorem ld_g : View.ld g r0_1 = g := View.ld_unit_zero (S := S1x1024) hz2 _ _
theorem ld_w0 (j : Fin 1024) : View.ld w r0_2 (ix2 j d) = w (ix2 j ⟨d.val, by omega⟩) := by
  exact View.ld_unit_apply_of _ _ _ _ _ _ fun a => by fin_cases a <;> first | rfl | exact (Nat.zero_add _).symm
theorem ld_w1 (j : Fin 1024) : View.ld w r0_3 (ix2 j d) = w (ix2 j ⟨1024 + d.val, by omega⟩) := by
  exact View.ld_unit_apply_of _ _ _ _ _ _ fun a => by fin_cases a <;> first | rfl | exact (Nat.zero_add _).symm
theorem ld_w2 (j : Fin 1024) : View.ld w r0_4 (ix2 j d) = w (ix2 j ⟨2048 + d.val, by omega⟩) := by
  exact View.ld_unit_apply_of _ _ _ _ _ _ fun a => by fin_cases a <;> first | rfl | exact (Nat.zero_add _).symm
theorem ld_w3 (j : Fin 1024) : View.ld w r0_8 (ix2 j d) = w (ix2 j ⟨3072 + d.val, by omega⟩) := by
  exact View.ld_unit_apply_of _ _ _ _ _ _ fun a => by fin_cases a <;> first | rfl | exact (Nat.zero_add _).symm
theorem ld_t0 (j : Fin 1024) : View.ld wt r0_5 (ix2 d j) = wt (ix2 ⟨d.val, by omega⟩ j) := by
  exact View.ld_unit_apply_of _ _ _ _ _ _ fun a => by fin_cases a <;> first | rfl | exact (Nat.zero_add _).symm
theorem ld_t1 (j : Fin 1024) : View.ld wt r0_7 (ix2 d j) = wt (ix2 ⟨1024 + d.val, by omega⟩ j) := by
  exact View.ld_unit_apply_of _ _ _ _ _ _ fun a => by fin_cases a <;> first | rfl | exact (Nat.zero_add _).symm

theorem out_q : out0_4 h g w wt (ix2 r d) = dotRow h g w r ⟨d.val, by omega⟩ * qs := by
  unfold out0_4
  rw [View.canon_unit_zero (S := S256x1024) hz2, q_at, ld_h, ld_g]
  exact congrArg (· * _) (Finset.sum_congr rfl fun j _ => congrArg _ (ld_w0 w d j))

theorem out_kt : out0_5 h g w wt (ix3 0 d r) = dotRowT h g wt r ⟨d.val, by omega⟩ := by
  unfold out0_5
  rw [View.canon_unit_zero (S := S1x1024x256) hz3, kt_at]
  unfold k0_pay8
  simp only [ld_h, ld_g, normed_at]
  exact Finset.sum_congr rfl fun j _ => congrArg _ (ld_t0 wt d j)

theorem out_vt : out0_6 h g w wt (ix3 0 d r) = dotRowT h g wt r ⟨1024 + d.val, by omega⟩ := by
  unfold out0_6
  rw [View.canon_unit_zero (S := S1x1024x256) hz3, vt_at]
  unfold k0_pay8
  simp only [ld_h, ld_g, normed_at]
  exact Finset.sum_congr rfl fun j _ => congrArg _ (ld_t1 wt d j)

theorem out_gz : out0_7 h g w wt (ix2 r d) = dotRow h g w r ⟨3072 + d.val, by omega⟩ * sgm (dotRow h g w r ⟨3072 + d.val, by omega⟩) := by
  unfold out0_7
  rw [View.canon_unit_zero (S := S256x1024) hz2, gz_at]
  unfold k0_pay8
  simp only [ld_h, ld_g, normed_at]
  have e : ∑ j, nrm (fun j => h (ix2 r j)) (g (ix2 0 j)) j * View.ld w r0_8 (ix2 j d) = dotRow h g w r ⟨3072 + d.val, by omega⟩ :=
    Finset.sum_congr rfl fun j _ => congrArg _ (ld_w3 w d j)
  rw [e]

theorem out_kb : out0_8 h g w wt (ix2 r d) = dotRow h g w r ⟨1024 + d.val, by omega⟩ := by
  unfold out0_8
  rw [View.canon_unit_zero (S := S256x1024) hz2, kb_at, ld_h, ld_g]
  exact Finset.sum_congr rfl fun j _ => congrArg _ (ld_w1 w d j)

theorem out_vb : out0_9 h g w wt (ix2 r d) = dotRow h g w r ⟨2048 + d.val, by omega⟩ := by
  unfold out0_9
  rw [View.canon_unit_zero (S := S256x1024) hz2, vb_at, ld_h, ld_g]
  exact Finset.sum_congr rfl fun j _ => congrArg _ (ld_w2 w d j)
end

end Cert.Kernel3Ideal.Proj

end
-- ==== Proof.ProjRef.lean ====
/-
  The projections' reference as a composition of whole-array operations, and each of them read at an index.
-/
module

public import proofs.«01_k».proof.Proof.Rows
public import proofs.«01_k».proof.Proof.Gen.Reference3Ideal
public import proofs.«01_k».proof.Proof.Gen.Reference3Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference3Ideal.Proj

open Cert.Reference3Ideal Cert.Reference3Ideal.Gen Cert.Rows

section
variable (x : FVec Ideal S16384x1024 .f32) (g : FVec Ideal S1024 .f32) (w : FVec Ideal S1024x4096 .f32)

/-- The normed rows. -/
def normed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The normed rows against every column of the weights. -/
def prod : FVec Ideal S16384x4096 .f32 := Host.dotGeneral dot_S16384x1024_S1024x4096_S16384x4096_1_0_0_1_n_n none (normed x g) w

variable (y : FVec Ideal S16384x4096 .f32)

/-- The queries. -/
def resQ : FVec Ideal S16384x1024 .bf16 :=
  truncf .bf16 (Host.divf (mulf (extractStridedSlice S16384x1024 ![0, 0] y slices_S16384x4096_S16384x1024_0_0) (broadcastInDim S16384x1024 ![] bcast_S_S16384x1024 (constant S_ .f32 0x3E000000#32))) (Host.log (broadcastInDim S16384x1024 ![] bcast_S_S16384x1024 (constant S_ .f32 0x40000000#32)))) bitsLt_bf16_f32

/-- The keys, channel first. -/
def resKt : FVec Ideal S2x1024x8192 .f32 :=
  transpose S2x1024x8192 [0, 2, 1] (shapeCast S2x8192x1024 (extractStridedSlice S16384x1024 ![0, 1024] y slices_S16384x4096_S16384x1024_0_1024) shapeCasts_S16384x1024_S2x8192x1024) transposes_S2x8192x1024_S2x1024x8192_0_2_1

/-- The values, channel first. -/
def resVt : FVec Ideal S2x1024x8192 .f32 :=
  transpose S2x1024x8192 [0, 2, 1] (shapeCast S2x8192x1024 (extractStridedSlice S16384x1024 ![0, 2048] y slices_S16384x4096_S16384x1024_0_2048) shapeCasts_S16384x1024_S2x8192x1024) transposes_S2x8192x1024_S2x1024x8192_0_2_1

/-- The gates. -/
def resZ : FVec Ideal S16384x1024 .f32 :=
  let z := extractStridedSlice S16384x1024 ![0, 3072] y slices_S16384x4096_S16384x1024_0_3072
  mulf z (Host.divf (broadcastInDim S16384x1024 ![] bcast_S_S16384x1024 (constant S_ .f32 0x3F800000#32)) (addf (broadcastInDim S16384x1024 ![] bcast_S_S16384x1024 (constant S_ .f32 0x3F800000#32)) (Host.exp (Host.negf z))))

/-- The keys, rounded. -/
def resKb : FVec Ideal S16384x1024 .bf16 :=
  truncf .bf16 (extractStridedSlice S16384x1024 ![0, 1024] y slices_S16384x4096_S16384x1024_0_1024) bitsLt_bf16_f32

/-- The values, rounded. -/
def resVb : FVec Ideal S16384x1024 .bf16 :=
  truncf .bf16 (extractStridedSlice S16384x1024 ![0, 2048] y slices_S16384x4096_S16384x1024_0_2048) bitsLt_bf16_f32

variable (r : Fin 16384) (d : Fin 1024) (b : Fin 2) (s : Fin 8192) (e : Fin 4096)

theorem normed_at : normed x g (ix2 r d) = nrm (fun j => x (ix2 r j)) (g (ix1 d)) d := by
  pointwise [normed]
  rfl

theorem prod_at : prod x g w (ix2 r e) = ∑ j, nrm (fun j => x (ix2 r j)) (g (ix1 j)) j * w (ix2 j e) := by
  pointwise [prod]
  exact Finset.sum_congr rfl fun j _ => by rw [normed_at]

theorem resQ_at : resQ y (ix2 r d) = y (ix2 r ⟨d.val, by omega⟩) * ((8⁻¹ * (Real.log 2)⁻¹ : ℝ) : EReal) := by
  pointwise [resQ]
  have e8 : Ideal.ofBits .f32 1040187392#32 = ((8⁻¹ : ℝ) : EReal) := by
    simp [Ideal.ofBits, Ideal.ieee, -EReal.coe_mul]; norm_num
  have e2 : Ideal.ofBits .f32 1073741824#32 = ((2 : ℝ) : EReal) := by
    simp [Ideal.ofBits, Ideal.ieee, -EReal.coe_mul]; norm_num
  rw [e8, e2, Ideal.log_coe, if_neg (by norm_num), Ideal.div_coe (Real.log_pos one_lt_two).ne', mul_assoc, ← EReal.coe_mul, one_div]

theorem resKt_at : resKt y (ix3 b d s) = y (ix2 ⟨b.val * 8192 + s.val, by omega⟩ ⟨1024 + d.val, by omega⟩) := by
  pointwise [resKt]

theorem resVt_at : resVt y (ix3 b d s) = y (ix2 ⟨b.val * 8192 + s.val, by omega⟩ ⟨2048 + d.val, by omega⟩) := by
  pointwise [resVt]

theorem resZ_at : resZ y (ix2 r d) = y (ix2 r ⟨3072 + d.val, by omega⟩) * sgm (y (ix2 r ⟨3072 + d.val, by omega⟩)) := by
  pointwise [resZ]
  rfl

theorem resKb_at : resKb y (ix2 r d) = y (ix2 r ⟨1024 + d.val, by omega⟩) := by
  pointwise [resKb]

theorem resVb_at : resVb y (ix2 r d) = y (ix2 r ⟨2048 + d.val, by omega⟩) := by
  pointwise [resVb]

end

/-- The normed rows against the weights, of the arguments at launch. -/
abbrev prodOf (m : (ℓ : Loc nD τ sig) → Buf (Elt Ideal) ℓ) (c : Dev nD) : FVec Ideal S16384x4096 .f32 :=
  prod (m ((c.tc : Thread nD τ).loc main_arg0)) (m ((c.tc : Thread nD τ).loc main_arg1)) (m ((c.tc : Thread nD τ).loc main_arg2))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = resQ (prodOf m c)
      ∧ r.2.mem ((c.tc : Thread nD τ).loc main_v25) = resKt (prodOf m c)
      ∧ r.2.mem ((c.tc : Thread nD τ).loc main_v27) = resVt (prodOf m c)
      ∧ r.2.mem ((c.tc : Thread nD τ).loc main_v28) = resZ (prodOf m c)
      ∧ r.2.mem ((c.tc : Thread nD τ).loc main_v29) = resKb (prodOf m c)
      ∧ r.2.mem ((c.tc : Thread nD τ).loc main_v30) = resVb (prodOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.Reference3Ideal.Proj

end
-- ==== Proof.ProjArrays.lean ====
/-
  The projections: each array after the kernel's run is the reference's.
-/
module

public import proofs.«01_k».proof.Proof.ProjRead
public import proofs.«01_k».proof.Proof.ProjRef

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.Rows

/-- The block indices of every window at a grid point: a block of rows, the whole of each weight, and for the two
    channel-first arrays a batch and a block of its positions. -/
theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ win0_5.index t = ![t.val / 32, 0, t.val % 32] ∧ win0_6.index t = ![t.val / 32, 0, t.val % 32]
    ∧ win0_7.index t = ![t.val, 0] ∧ win0_8.index t = ![t.val, 0] ∧ win0_9.index t = ![t.val, 0] :=
  (by decide +kernel : ∀ t : Fin grid0.N, _)

theorem lt64 (t : Fin cfg0.N) : t.val < 64 := t.isLt

variable (m : (ℓ : Loc nD τ sig) → Buf (Elt Ideal) ℓ) (c : Dev nD) (t : Fin cfg0.N)

/-- The hidden state at launch. -/
abbrev argH : FVec Ideal S16384x1024 .f32 := m ((c.tc : Thread nD τ).loc main_arg0)
/-- The gains at launch. -/
abbrev argG : FVec Ideal S1024 .f32 := m ((c.tc : Thread nD τ).loc main_arg1)
/-- The weights at launch. -/
abbrev argW : FVec Ideal S1024x4096 .f32 := m ((c.tc : Thread nD τ).loc main_arg2)

/-- A row of a block of rows, as a row of the array. -/
abbrev rowOf (r : Fin 256) : Fin 16384 := ⟨256 * t.val + r.val, by have := lt64 t; omega⟩

/-- A staged row is a row of the hidden state. -/
theorem h_read (r : Fin 256) (d : Fin 1024) : (iblk m c 0 t : Vec Ideal S256x1024 .f32) (ix2 r d) = argH m c (ix2 (rowOf t r) d) := by
  blk_ext [iblk, V, idx t]

/-- The staged gains are the gains. -/
theorem g_read (d : Fin 1024) : (iblk m c 1 t : Vec Ideal S1x1024 .f32) (ix2 0 d) = argG m c (ix1 d) := by
  blk_simp [iblk, idx t]
  entry_read
  pointwise []
  blk_ext [idx t]

/-- The staged weights are the weights. -/
theorem w_read (j : Fin 1024) (e : Fin 4096) : (iblk m c 2 t : Vec Ideal S1024x4096 .bf16) (ix2 j e) = argW m c (ix2 j e) := by
  blk_simp [iblk, idx t]
  entry_read
  pointwise []
  blk_ext [idx t]

/-- The staged turned weights are the keys' and the values' columns of the weights, turned. -/
theorem wt_read (j : Fin 1024) (e : Fin 2048) : (iblk m c 3 t : Vec Ideal S2048x1024 .bf16) (ix2 e j) = argW m c (ix2 j ⟨1024 + e.val, by omega⟩) := by
  blk_simp [iblk, idx t]
  entry_read
  pointwise []
  blk_ext [idx t]

/-- A block's output through the projections at a row and column. -/
theorem dot_read (r : Fin 256) (e : Fin 4096) : dotRow (iblk m c 0 t) (iblk m c 1 t) (iblk m c 2 t) r e
    = Cert.Reference3Ideal.Proj.prod (argH m c) (argG m c) (argW m c) (ix2 (rowOf t r) e) := by
  rw [Cert.Reference3Ideal.Proj.prod_at]
  simp only [dotRow, h_read, g_read, w_read]

/-- The same through the turned weights. -/
theorem dotT_read (r : Fin 256) (e : Fin 2048) : dotRowT (iblk m c 0 t) (iblk m c 1 t) (iblk m c 3 t) r e
    = Cert.Reference3Ideal.Proj.prod (argH m c) (argG m c) (argW m c) (ix2 (rowOf t r) ⟨1024 + e.val, by omega⟩) := by
  rw [Cert.Reference3Ideal.Proj.prod_at]
  simp only [dotRowT, h_read, g_read, wt_read]

open Cert.Reference3Ideal.Proj

/-- The batch a grid point is in. -/
abbrev batchOf : Fin 2 := ⟨t.val / 32, by have := lt64 t; omega⟩
/-- A row of a block of rows, as a position of its batch. -/
abbrev posOf (r : Fin 256) : Fin 8192 := ⟨256 * (t.val % 32) + r.val, by omega⟩

theorem row_eq (r : Fin 256) : (⟨(batchOf t).val * 8192 + (posOf t r).val, by omega⟩ : Fin 16384) = rowOf t r :=
  Fin.ext (by show t.val / 32 * 8192 + (256 * (t.val % 32) + r.val) = 256 * t.val + r.val; omega)

/-- The queries. -/
theorem final_q : (dats m 0 c).arrAt 4 cfg0.N = resQ (prod (argH m c) (argG m c) (argW m c)) := by
  refine (dats m 0 c).arrAt_eq_of_covers 4 _ (by decide +kernel) fun t hf y => ?_
  blk_simp
  rw [after0_4]
  idx_vars y
  have e : ((cfg0.win 4).blk t).view.emb (ix2 y0 y1 : S256x1024.Idx) = (ix2 (rowOf t y0) y1 : S16384x1024.Idx) := by
    blk_ext [idx t]
  refine Eq.trans ?_ (congrArg (resQ (prod (argH m c) (argG m c) (argW m c))) e.symm)
  rw [out_q, dot_read, resQ_at]
  rfl

/-- The keys, channel first. -/
theorem final_kt : (dats m 0 c).arrAt 5 cfg0.N = resKt (prod (argH m c) (argG m c) (argW m c)) := by
  refine (dats m 0 c).arrAt_eq_of_covers 5 _ (by decide +kernel) fun t hf y => ?_
  blk_simp
  rw [after0_5]
  idx_vars y
  obtain rfl : y0 = 0 := Subsingleton.elim _ _
  have e : ((cfg0.win 5).blk t).view.emb (ix3 0 y1 y2 : S1x1024x256.Idx) = (ix3 (batchOf t) y1 (posOf t y2) : S2x1024x8192.Idx) := by
    blk_ext [idx t]
  refine Eq.trans ?_ (congrArg (resKt (prod (argH m c) (argG m c) (argW m c))) e.symm)
  rw [out_kt, dotT_read, resKt_at, row_eq]

/-- The values, channel first. -/
theorem final_vt : (dats m 0 c).arrAt 6 cfg0.N = resVt (prod (argH m c) (argG m c) (argW m c)) := by
  refine (dats m 0 c).arrAt_eq_of_covers 6 _ (by decide +kernel) fun t hf y => ?_
  blk_simp
  rw [after0_6]
  idx_vars y
  obtain rfl : y0 = 0 := Subsingleton.elim _ _
  have e : ((cfg0.win 6).blk t).view.emb (ix3 0 y1 y2 : S1x1024x256.Idx) = (ix3 (batchOf t) y1 (posOf t y2) : S2x1024x8192.Idx) := by
    blk_ext [idx t]
  refine Eq.trans ?_ (congrArg (resVt (prod (argH m c) (argG m c) (argW m c))) e.symm)
  rw [out_vt, dotT_read, resVt_at, row_eq]
  exact congrArg _ (congrArg _ (Fin.ext (by show 1024 + (1024 + y1.val) = 2048 + y1.val; omega)))

/-- The gates. -/
theorem final_gz : (dats m 0 c).arrAt 7 cfg0.N = resZ (prod (argH m c) (argG m c) (argW m c)) := by
  refine (dats m 0 c).arrAt_eq_of_covers 7 _ (by decide +kernel) fun t hf y => ?_
  blk_simp
  rw [after0_7]
  idx_vars y
  have e : ((cfg0.win 7).blk t).view.emb (ix2 y0 y1 : S256x1024.Idx) = (ix2 (rowOf t y0) y1 : S16384x1024.Idx) := by
    blk_ext [idx t]
  refine Eq.trans ?_ (congrArg (resZ (prod (argH m c) (argG m c) (argW m c))) e.symm)
  rw [out_gz, dot_read, resZ_at]

/-- The keys, rounded. -/
theorem final_kb : (dats m 0 c).arrAt 8 cfg0.N = resKb (prod (argH m c) (argG m c) (argW m c)) := by
  refine (dats m 0 c).arrAt_eq_of_covers 8 _ (by decide +kernel) fun t hf y => ?_
  blk_simp
  rw [after0_8]
  idx_vars y
  have e : ((cfg0.win 8).blk t).view.emb (ix2 y0 y1 : S256x1024.Idx) = (ix2 (rowOf t y0) y1 : S16384x1024.Idx) := by
    blk_ext [idx t]
  refine Eq.trans ?_ (congrArg (resKb (prod (argH m c) (argG m c) (argW m c))) e.symm)
  rw [out_kb, dot_read, resKb_at]

/-- The values, rounded. -/
theorem final_vb : (dats m 0 c).arrAt 9 cfg0.N = resVb (prod (argH m c) (argG m c) (argW m c)) := by
  refine (dats m 0 c).arrAt_eq_of_covers 9 _ (by decide +kernel) fun t hf y => ?_
  blk_simp
  rw [after0_9]
  idx_vars y
  have e : ((cfg0.win 9).blk t).view.emb (ix2 y0 y1 : S256x1024.Idx) = (ix2 (rowOf t y0) y1 : S16384x1024.Idx) := by
    blk_ext [idx t]
  refine Eq.trans ?_ (congrArg (resVb (prod (argH m c) (argG m c) (argW m c))) e.symm)
  rw [out_vb, dot_read, resVb_at]

end Cert.Kernel3Ideal.Proj

end
-- ==== Proof.ProjClaims.lean ====
/-
  The claims of the projections: each program's run, put beside the other's.
-/
module

public import proofs.«01_k».proof.Defs
public import proofs.«01_k».proof.Proof.ProjArrays
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal

@[expose] public section

noncomputable section

open Idealize.ShloMosaic Idealize.SL.Sem

namespace Cert.Proj.Claims

/-- The kernel terminates without a fault and leaves its arguments and every semaphore as they were. -/
theorem frame_kernel : Cert.quiescent_Kernel3 := fun m ρ _ => Cert.Kernel3.Gen.frame m ρ

/-- The same of its idealization. -/
theorem frame_ideal : Cert.quiescent_Kernel3Ideal := fun m ρ _ => Cert.Kernel3Ideal.Gen.frame m ρ

/-- The same of the reference, which declares no semaphore. -/
theorem frame_reference : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Proj.run m ρ)

/-- The named constant is the real `log2(e) / 8`. -/
theorem preserves : Cert.preserves_Kernel3_Kernel3Ideal :=
  IdealRules.named_const.statement Cert.Kernel3Ideal.κ "qscale" .f32 0x3E38AA3B#32 ((8⁻¹ * (Real.log 2)⁻¹ : ℝ) : EReal) rfl

/-- Over the extended reals the kernel's six results are the reference's, from the same arguments. -/
theorem algebraic : Cert.algebraic_Kernel3Ideal_Reference3Ideal := by
  intro m ρ m' ρ' _ hagree
  have e : ∀ c : Dev Cert.Kernel3Ideal.nD, Cert.Reference3Ideal.Proj.prod (Cert.Kernel3Ideal.Proj.argH m c) (Cert.Kernel3Ideal.Proj.argG m c) (Cert.Kernel3Ideal.Proj.argW m c)
      = Cert.Reference3Ideal.Proj.prodOf m' c := fun c => by
    unfold Cert.Reference3Ideal.Proj.prodOf
    rw [(hagree c).1, (hagree c).2.1, (hagree c).2.2]
  refine ⟨_, _, _, _, _, _, ?_, Cert.Reference3Ideal.Proj.run m' ρ'⟩
  refine (θ_run Cert.Kernel3Ideal.defs _ _).mono (fun _ h c => ?_) (Cert.Kernel3Ideal.Value.run_blocks (F := Ideal) m ρ)
  obtain ⟨h1, h2, h3, h4, h5, h6, h⟩ := h c
  exact ⟨h1.trans ((Cert.Kernel3Ideal.Proj.final_q m c).trans (congrArg _ (e c))),
    h2.trans ((Cert.Kernel3Ideal.Proj.final_kt m c).trans (congrArg _ (e c))),
    h3.trans ((Cert.Kernel3Ideal.Proj.final_vt m c).trans (congrArg _ (e c))),
    h4.trans ((Cert.Kernel3Ideal.Proj.final_gz m c).trans (congrArg _ (e c))),
    h5.trans ((Cert.Kernel3Ideal.Proj.final_kb m c).trans (congrArg _ (e c))),
    h6.trans ((Cert.Kernel3Ideal.Proj.final_vb m c).trans (congrArg _ (e c))), h⟩

end Cert.Proj.Claims

end
-- ==== Proof.Heads.lean ====
/-
  Rows of 1024 channels in heads of 64: sums within a head, written with a 0/1 matrix or over the head's channels, and the numbers
  for which splitting a summand into a rounded part and a rest loses nothing.
-/
module

public import Idealize.ShloMosaic.Lib.Pointwise
public import Idealize.ShloMosaic.Lib.IdealHost

@[expose] public section

noncomputable section

open Idealize.ShloMosaic

namespace Cert.Heads

/-- Neither infinity. -/
def Finite (x : EReal) : Prop := x ≠ ⊤ ∧ x ≠ ⊥

theorem Finite.coe (x : ℝ) : Finite (x : EReal) := ⟨EReal.coe_ne_top x, EReal.coe_ne_bot x⟩

theorem Finite.exists {x : EReal} (h : Finite x) : ∃ r : ℝ, x = (r : EReal) := ⟨x.toReal, (EReal.coe_toReal h.1 h.2).symm⟩

theorem Finite.add {x y : EReal} (hx : Finite x) (hy : Finite y) : Finite (x + y) := by
  obtain ⟨a, rfl⟩ := hx.exists
  obtain ⟨b, rfl⟩ := hy.exists
  exact EReal.coe_add a b ▸ Finite.coe _

theorem Finite.sub {x y : EReal} (hx : Finite x) (hy : Finite y) : Finite (x - y) := by
  obtain ⟨a, rfl⟩ := hx.exists
  obtain ⟨b, rfl⟩ := hy.exists
  exact EReal.coe_sub a b ▸ Finite.coe _

theorem Finite.mul {x y : EReal} (hx : Finite x) (hy : Finite y) : Finite (x * y) := by
  obtain ⟨a, rfl⟩ := hx.exists
  obtain ⟨b, rfl⟩ := hy.exists
  exact EReal.coe_mul a b ▸ Finite.coe _

theorem Finite.sum {ι : Type} [Fintype ι] {f : ι → EReal} (h : ∀ i, Finite (f i)) : Finite (∑ i, f i) :=
  Finset.sum_induction f Finite (fun _ _ => Finite.add) (EReal.coe_zero ▸ Finite.coe 0) fun i _ => h i

/-- 1 when two channels are of one head, 0 otherwise. -/
def same (j d : Fin 1024) : EReal := if j.val / 64 = d.val / 64 then 1 else 0

/-- The `n`-th channel of the head that channel `d` is of. -/
abbrev chan (d : Fin 1024) (n : Fin 64) : Fin 1024 := ⟨64 * (d.val / 64) + n.val, by have := d.isLt; have := n.isLt; omega⟩

theorem chan_chan (d : Fin 1024) (n k : Fin 64) : chan (chan d n) k = chan d k := by
  have := n.isLt
  exact Fin.ext (by simp only [chan]; omega)

/-- A row times the 0/1 matrix is the sum within the head. -/
theorem sum_same (f : Fin 1024 → EReal) (d : Fin 1024) : ∑ j, f j * same j d = ∑ n, f (chan d n) := by
  simp only [same, mul_ite, mul_one, mul_zero]
  rw [← Finset.sum_filter]
  refine Finset.sum_bij' (fun j _ => (⟨j.val % 64, Nat.mod_lt _ (by decide)⟩ : Fin 64)) (fun n _ => chan d n) ?_ ?_ ?_ ?_ ?_
  · intro j _
    exact Finset.mem_univ _
  · intro n _
    have := n.isLt
    simp only [Finset.mem_filter, Finset.mem_univ, true_and, chan]
    omega
  · intro j hj
    have := (Finset.mem_filter.mp hj).2
    exact Fin.ext (by simp only [chan]; omega)
  · intro n _
    have := n.isLt
    exact Fin.ext (by simp only [chan]; omega)
  · intro j hj
    have := (Finset.mem_filter.mp hj).2
    exact congrArg f (Fin.ext (by simp only [chan]; omega))

/-- The same with the row in two parts, the second what is left of the first: nothing, for finite entries. -/
theorem sum_split (f : Fin 1024 → EReal) (hf : ∀ j, Finite (f j)) (d : Fin 1024) :
    ∑ j, f j * same j d + ∑ j, (f j - f j) * same j d = ∑ n, f (chan d n) := by
  have h : ∀ j, f j - f j = 0 := fun j => EReal.sub_self (hf j).1 (hf j).2
  simp only [h, zero_mul, Finset.sum_const_zero, add_zero, sum_same]

/-- The mean over a head: 1115684864 is 64. -/
def mean (f : Fin 64 → EReal) : EReal := Ideal.div (∑ n, f n) (Ideal.ofBits .f32 1115684864#32)

/-- The number 1015021568 stands for is 1/64. -/
theorem mean_eq (f : Fin 64 → EReal) : (∑ n, f n) * Ideal.ofBits .f32 1015021568#32 = mean f := by
  have h1 : Ideal.ofBits .f32 1015021568#32 = ((1 / 64 : ℝ) : EReal) := by simp [Ideal.ofBits, Ideal.ieee, -EReal.coe_mul]; norm_num
  have h2 : Ideal.ofBits .f32 1115684864#32 = ((64 : ℝ) : EReal) := by simp [Ideal.ofBits, Ideal.ieee, -EReal.coe_mul]; norm_num
  rw [mean, h1, h2, Ideal.div_coe (by norm_num)]

theorem Finite.mean {f : Fin 64 → EReal} (h : ∀ n, Finite (f n)) : Finite (mean f) := by
  have h1 : Ideal.ofBits .f32 1015021568#32 = ((1 / 64 : ℝ) : EReal) := by simp [Ideal.ofBits, Ideal.ieee, -EReal.coe_mul]; norm_num
  rw [← mean_eq, h1]
  exact (Finite.sum h).mul (Finite.coe _)

/-- A channel less its head's mean. -/
def dev (y : Fin 1024 → EReal) (d : Fin 1024) : EReal := y d - mean fun n => y (chan d n)

theorem Finite.dev {y : Fin 1024 → EReal} (h : ∀ j, Finite (y j)) (d : Fin 1024) : Finite (dev y d) := (h d).sub (Finite.mean fun _ => h _)

/-- A row normed within each head, with a weight and a bias for every channel: 975685036 is the small number added to the variance. -/
def normed (y lw lb : Fin 1024 → EReal) (d : Fin 1024) : EReal :=
  dev y d * Ideal.rsqrt (mean (fun n => dev y (chan d n) * dev y (chan d n)) + Ideal.ofBits .f32 975685036#32) * lw d + lb d

/-- An absolute value below infinity, which 2139095040 stands for, is of a finite number. -/
theorem finite_of_abs {x : EReal} (h : Ideal.cmp .olt (max x (-x)) (Ideal.ofBits .f32 2139095040#32) = 1#1) : Finite x := by
  have htop : Ideal.ofBits .f32 2139095040#32 = ⊤ := by simp [Ideal.ofBits, Ideal.ieee]
  rw [htop] at h
  have h' := max_lt_iff.mp ((Ideal.cmp_olt_eq_one _ _).mp h)
  refine ⟨h'.1.ne, fun e => ?_⟩
  rw [e] at h'
  exact absurd h'.2 (by simp)

end Cert.Heads

end
-- ==== Proof.NormTailRead.lean ====
/-
  The layer's end with the branch normed within each head: what the block the kernel writes holds at an index, from the blocks it reads.
-/
module

public import proofs.«01_k».proof.Proof.Rows
public import proofs.«01_k».proof.Proof.Heads
public import proofs.«01_k».proof.Proof.Gen.Kernel4Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel4Ideal.Tail

open Cert.Kernel4Ideal Cert.Kernel4Ideal.Gen Cert.Rows Cert.Heads

section
variable (h y z b : Vec Ideal S256x1024 .f32) (lw lb : Vec Ideal S1x1024 .f32) (q : Vec Ideal S1024x1024 .bf16) (p : Vec Ideal S256x256 .f32)
  (w : Vec Ideal S1024x1024 .bf16) (g : Vec Ideal S1x1024 .f32)
  (wp : Vec Ideal S256x1024 .bf16) (wg : Vec Ideal S1024x1024 .bf16) (r : Fin 256) (d : Fin 1024)

/-- The normed branch with the bonus added. -/
abbrev branchRow : Fin 1024 → EReal :=
  fun j => normed (fun k => y (ix2 r k)) (fun k => lw (ix2 0 k)) (fun k => lb (ix2 0 k)) j + b (ix2 r j)

theorem branch_at (hq : ∀ j k, q (ix2 j k) = same j k) (hy : ∀ j, Heads.Finite (y (ix2 r j))) :
    k0_pay2 y q q lw lb b (ix2 r d) = branchRow y b lw lb r d := by
  pointwise [k0_pay2]
  have e : ∀ j, (∑ k, (y (ix2 r k) : EReal) * q (ix2 k j) + ∑ k, (y (ix2 r k) - y (ix2 r k)) * q (ix2 k j)) * Ideal.ofBits .f32 1015021568#32
      = mean fun n => y (ix2 r (chan j n)) := fun j => by
    simp only [hq]
    rw [sum_split (fun k => y (ix2 r k)) hy, mean_eq]
  have e2 := sum_split (fun j => dev (fun k => y (ix2 r k)) j * dev (fun k => y (ix2 r k)) j)
    (fun j => (Finite.dev hy j).mul (Finite.dev hy j)) d
  simp only [e]
  simp only [hq]
  simp only [dev] at e2
  rw [e2, mean_eq]
  rfl

/-- A joined row of a block, from the branch's row. -/
abbrev joinedRow (x : Fin 1024 → EReal) : Fin 1024 → EReal :=
  joined (fun j => h (ix2 r j)) x (fun j => z (ix2 r j)) (fun j k => w (ix2 j k)) (fun j => g (ix2 0 j))

/-- A row of a block with the branch joined. -/
theorem joined_at (x : FVec Ideal S256x1024 .f32) : k0_pay3 x z h w g (ix2 r d) = joinedRow h z w g r (fun j => x (ix2 r j)) d := by
  pointwise [k0_pay3]
  rfl

/-- The gate of the embedding. -/
theorem gate_at (x : FVec Ideal S256x1024 .f32) :
    k0_pay4 x z h w g wg (ix2 r d) = sgm (∑ j, joinedRow h z w g r (fun j => x (ix2 r j)) j * wg (ix2 j d)) := by
  pointwise [k0_pay4]
  simp only [joined_at, zero_sub]
  rfl

/-- The block's last sum. -/
theorem last_at (x s : FVec Ideal S256x1024 .f32) :
    k0_pay1 x s (k0_pay5 p wp) (ix2 r d) = x (ix2 r d) + (∑ k, p (ix2 r k) * wp (ix2 k d)) * s (ix2 r d) := by
  pointwise [k0_pay1, k0_pay5]

theorem hz2 : (![0, 0] : Fin 2 → ℕ) = fun _ => 0 := by decide

/-- What the body leaves. -/
theorem out_at (hq : ∀ j k, q (ix2 j k) = same j k) (hy : ∀ j, Heads.Finite (y (ix2 r j))) :
    out0_12 h y z b lw lb q p w g wp wg (ix2 r d)
    = ended (fun j => h (ix2 r j)) (branchRow y b lw lb r) (fun j => z (ix2 r j)) (fun k => p (ix2 r k)) (fun j k => w (ix2 j k))
        (fun j => g (ix2 0 j)) (fun k j => wp (ix2 k j)) (fun j k => wg (ix2 j k)) d := by
  unfold out0_12 k0_pay6
  rw [View.canon_unit_zero (S := S256x1024) hz2]
  simp only [View.ld_unit_zero (S := S256x1024) hz2, View.ld_unit_zero (S := S1024x1024) hz2, View.ld_unit_zero (S := S1x1024) hz2,
    View.ld_unit_zero (S := S256x256) hz2]
  rw [last_at, joined_at, gate_at]
  simp only [branch_at _ _ _ _ _ _ _ hq hy]
  rfl
end

end Cert.Kernel4Ideal.Tail

end
-- ==== Proof.NormTailRef.lean ====
/-
  The layer's end with the branch normed within each head, in the reference, as a composition of whole-array operations, and each of them read at an index.
-/
module

public import proofs.«01_k».proof.Proof.Rows
public import proofs.«01_k».proof.Proof.Heads
public import proofs.«01_k».proof.Proof.Gen.Reference4Ideal
public import proofs.«01_k».proof.Proof.Gen.Reference4Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference4Ideal.Tail

open Cert.Reference4Ideal Cert.Reference4Ideal.Gen Cert.Rows Cert.Heads

section
variable (h y z : FVec Ideal S16384x1024 .f32) (p : FVec Ideal S16384x256 .f32) (w : FVec Ideal S1024x1024 .f32) (g : FVec Ideal S1024 .f32)
  (wp : FVec Ideal S256x1024 .f32) (wg : FVec Ideal S1024x1024 .f32) (x : FVec Ideal S16384x1024 .f32) (b : FVec Ideal S16384x1024 .f32) (lw lb : FVec Ideal S1024 .f32) (r : Fin 16384) (d : Fin 1024)

/-- A row's channels by head. -/
def heads : FVec Ideal S16384x16x64 .f32 := shapeCast _ y shapeCasts_S16384x1024_S16384x16x64

/-- The mean over each head, for each of the head's channels. -/
def means (u : FVec Ideal S16384x16x64 .f32) : FVec Ideal S16384x16x1 .f32 :=
  Host.divf (broadcastInDim S16384x16x1 ![0, 1] bcast_S16384x16_S16384x16x1_0_1 (Host.reduceAdd u (constant S_ .f32 0x00000000#32) reducesTo_S16384x16x64_S16384x16_d2 h_S_)) (broadcastInDim S16384x16x1 ![] bcast_S_S16384x16x1 (constant S_ .f32 0x42800000#32))

/-- Each channel less its head's mean. -/
def devs : FVec Ideal S16384x16x64 .f32 :=
  subf (heads y) (broadcastInDim S16384x16x64 ![0, 1, 2] bcast_S16384x16x1_S16384x16x64_0_1_2 (means (heads y)))

/-- A vector of channels, for every row. -/
def rows (v : FVec Ideal S1024 .f32) : FVec Ideal S16384x1024 .f32 :=
  broadcastInDim S16384x1024 ![0, 1] bcast_S1x1024_S16384x1024_0_1 (broadcastInDim S1x1024 ![1] bcast_S1024_S1x1024_1 v)

/-- The branch normed within each head, and the bonus. -/
def branchIn : FVec Ideal S16384x1024 .f32 :=
  addf (addf (mulf (shapeCast _ (mulf (devs y) (broadcastInDim S16384x16x64 ![0, 1, 2] bcast_S16384x16x1_S16384x16x64_0_1_2
    (Host.rsqrt (addf (means (mulf (devs y) (devs y))) (broadcastInDim S16384x16x1 ![] bcast_S_S16384x16x1 (constant S_ .f32 0x3A27C5AC#32))))))
      shapeCasts_S16384x16x64_S16384x1024) (rows lw)) (rows lb)) b

theorem heads_at (k : Fin 16) (n : Fin 64) : heads y (ix3 r k n) = y (ix2 r (⟨64 * k.val + n.val, by omega⟩ : Fin 1024)) := by
  pointwise [heads]
  exact congrArg (fun i => y (ix2 r i)) (Fin.ext (by simp only [Nat.mul_comm]))

theorem means_at (u : FVec Ideal S16384x16x64 .f32) (k : Fin 16) : means u (ix3 r k 0) = mean fun n => u (ix3 r k n) := by
  pointwise [means]
  rfl

theorem devs_at (k : Fin 16) (n : Fin 64) :
    devs y (ix3 r k n) = dev (fun j => y (ix2 r j)) (⟨64 * k.val + n.val, by omega⟩ : Fin 1024) := by
  pointwise [devs]
  simp only [means_at, heads_at]
  have : (⟨64 * k.val + n.val, by omega⟩ : Fin 1024).val / 64 = k.val := by simp only; omega
  simp only [dev, chan, this]

theorem branchIn_at :
    branchIn y b lw lb (ix2 r d)
      = Heads.normed (fun j => y (ix2 r j)) (fun j => lw (ix1 j)) (fun j => lb (ix1 j)) d + b (ix2 r d) := by
  pointwise [branchIn, rows]
  have h1 : (⟨64 * (d.val / 64) + d.val % 64, by omega⟩ : Fin 1024) = d := Fin.ext (by simp only; omega)
  rw [means_at]
  simp only [devs_at, h1, Heads.normed, mulf_apply]
  rfl

/-- The projection of the gated branch. -/
def branch : FVec Ideal S16384x1024 .f32 := Host.dotGeneral dot_S16384x1024_S1024x1024_S16384x1024_1_0_0_1_n_n none (mulf y z) w

/-- The normed rows. -/
def normed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The hidden state with the branch joined. -/
def withBranch : FVec Ideal S16384x1024 .f32 := addf h (normed g (branch y z w))

/-- The gates of the embedding. -/
def gates : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none x wg))))

/-- The result. -/
def result : FVec Ideal S16384x1024 .f32 :=
  addf (withBranch h y z w g) (mulf (Host.dotGeneral dot_S16384x256_S256x1024_S16384x1024_1_0_0_1_n_n none p wp) (gates wg (withBranch h y z w g)))

theorem normed_at : normed g x (ix2 r d) = nrm (fun j => x (ix2 r j)) (g (ix1 d)) d := by
  pointwise [normed]
  rfl

theorem branch_at : branch y z w (ix2 r d) = ∑ j, y (ix2 r j) * z (ix2 r j) * w (ix2 j d) := by
  pointwise [branch]

theorem withBranch_at : withBranch h y z w g (ix2 r d)
    = joined (fun j => h (ix2 r j)) (fun j => y (ix2 r j)) (fun j => z (ix2 r j)) (fun j k => w (ix2 j k)) (fun j => g (ix1 j)) d := by
  pointwise [withBranch]
  rw [normed_at]
  simp only [branch_at]
  rfl

theorem gates_at : gates wg x (ix2 r d) = sgm (∑ j, x (ix2 r j) * wg (ix2 j d)) := by
  pointwise [gates]
  rfl

theorem result_at : result h y z p w g wp wg (ix2 r d)
    = ended (fun j => h (ix2 r j)) (fun j => y (ix2 r j)) (fun j => z (ix2 r j)) (fun k => p (ix2 r k)) (fun j k => w (ix2 j k))
        (fun j => g (ix1 j)) (fun k j => wp (ix2 k j)) (fun j k => wg (ix2 j k)) d := by
  pointwise [result]
  rw [gates_at]
  simp only [withBranch_at]
  rfl
end

/-- The result of the arguments at launch. -/
abbrev resultOf (m : (ℓ : Loc nD τ sig) → Buf (Elt Ideal) ℓ) (c : Dev nD) : FVec Ideal S16384x1024 .f32 :=
  result (m ((c.tc : Thread nD τ).loc main_arg0))
    (branchIn (m ((c.tc : Thread nD τ).loc main_arg1)) (m ((c.tc : Thread nD τ).loc main_arg3)) (m ((c.tc : Thread nD τ).loc main_arg4))
      (m ((c.tc : Thread nD τ).loc main_arg5)))
    (m ((c.tc : Thread nD τ).loc main_arg2)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run (F := Ideal) m ρ

end Cert.Reference4Ideal.Tail

end
-- ==== Proof.NormTailArrays.lean ====
/-
  The layer's end with the branch normed within each head: the array after the kernel's run is the reference's result.
-/
module

public import proofs.«01_k».proof.Proof.NormTailRead
public import proofs.«01_k».proof.Proof.NormTailRef
public import Idealize.ShloMosaic.Lib.StableHlo.RunRead

@[expose] public section

set_option maxRecDepth 16384

noncomputable section

open Idealize.ShloMosaic Idealize.ShloMosaic.TcCoe Idealize.SL.Sem

namespace Cert.Kernel4Ideal.Tail

open Cert.Kernel4Ideal Cert.Kernel4Ideal.Gen Cert.Rows Cert.Heads

/-- The block indices of every window at a grid point: a block of rows, and the whole of each weight. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0]
    ∧ win0_8.index t = ![0, 0] ∧ win0_9.index t = ![0, 0] ∧ win0_10.index t = ![0, 0] ∧ win0_11.index t = ![0, 0]
    ∧ win0_12.index t = ![t.val, 0] :=
  (by decide +kernel : ∀ t : Fin grid0.N, _)

theorem lt64 (t : Fin cfg0.N) : t.val < 64 := t.isLt

variable (m : (ℓ : Loc nD τ sig) → Buf (Elt Ideal) ℓ) (c : Dev nD) (t : Fin cfg0.N)

/-- The hidden state at launch. -/
abbrev argH : FVec Ideal S16384x1024 .f32 := m ((c.tc : Thread nD τ).loc main_arg0)
/-- The branch's output at launch. -/
abbrev argY : FVec Ideal S16384x1024 .f32 := m ((c.tc : Thread nD τ).loc main_arg1)
/-- The branch's gates at launch. -/
abbrev argZ : FVec Ideal S16384x1024 .f32 := m ((c.tc : Thread nD τ).loc main_arg2)
/-- The bonus at launch. -/
abbrev argB : FVec Ideal S16384x1024 .f32 := m ((c.tc : Thread nD τ).loc main_arg3)
/-- The head norm's weights at launch. -/
abbrev argLw : FVec Ideal S1024 .f32 := m ((c.tc : Thread nD τ).loc main_arg4)
/-- The head norm's biases at launch. -/
abbrev argLb : FVec Ideal S1024 .f32 := m ((c.tc : Thread nD τ).loc main_arg5)
/-- The embeddings at launch. -/
abbrev argP : FVec Ideal S16384x256 .f32 := m ((c.tc : Thread nD τ).loc main_arg6)
/-- The branch's output weights at launch. -/
abbrev argW : FVec Ideal S1024x1024 .f32 := m ((c.tc : Thread nD τ).loc main_arg7)
/-- The gains at launch. -/
abbrev argG : FVec Ideal S1024 .f32 := m ((c.tc : Thread nD τ).loc main_arg8)
/-- The embeddings' weights at launch. -/
abbrev argWp : FVec Ideal S256x1024 .f32 := m ((c.tc : Thread nD τ).loc main_arg9)
/-- The gate weights at launch. -/
abbrev argWg : FVec Ideal S1024x1024 .f32 := m ((c.tc : Thread nD τ).loc main_arg10)

/-- A row of a block of rows, as a row of the array. -/
abbrev rowOf (r : Fin 256) : Fin 16384 := ⟨256 * t.val + r.val, by have := lt64 t; omega⟩

/-- Each staged block of rows is those rows of its argument. -/
theorem row_read (r : Fin 256) (d : Fin 1024) :
    (iblk m c 0 t : Vec Ideal S256x1024 .f32) (ix2 r d) = argH m c (ix2 (rowOf t r) d)
    ∧ (iblk m c 1 t : Vec Ideal S256x1024 .f32) (ix2 r d) = argY m c (ix2 (rowOf t r) d)
    ∧ (iblk m c 2 t : Vec Ideal S256x1024 .f32) (ix2 r d) = argZ m c (ix2 (rowOf t r) d)
    ∧ (iblk m c 3 t : Vec Ideal S256x1024 .f32) (ix2 r d) = argB m c (ix2 (rowOf t r) d) := by
  refine ⟨?_, ?_, ?_, ?_⟩ <;> blk_ext [iblk, V, idx t]

theorem p_read (r k : Fin 256) : (iblk m c 7 t : Vec Ideal S256x256 .f32) (ix2 r k) = argP m c (ix2 (rowOf t r) k) := by
  blk_ext [iblk, V, idx t]

/-- The staged vectors are the vectors. -/
theorem vec_read (d : Fin 1024) :
    (iblk m c 4 t : Vec Ideal S1x1024 .f32) (ix2 0 d) = argLw m c (ix1 d)
    ∧ (iblk m c 5 t : Vec Ideal S1x1024 .f32) (ix2 0 d) = argLb m c (ix1 d)
    ∧ (iblk m c 9 t : Vec Ideal S1x1024 .f32) (ix2 0 d) = argG m c (ix1 d) := by
  refine ⟨?_, ?_, ?_⟩ <;> (blk_simp [iblk, idx t]; after_reads_simp; pointwise []; blk_ext [idx t])

/-- The staged weights are the weights. -/
theorem w_read (j k : Fin 1024) : (iblk m c 8 t : Vec Ideal S1024x1024 .bf16) (ix2 j k) = argW m c (ix2 j k) := by
  blk_simp [iblk, idx t]
  entry_read
  pointwise []
  blk_ext [idx t]

theorem wp_read (k : Fin 256) (j : Fin 1024) : (iblk m c 10 t : Vec Ideal S256x1024 .bf16) (ix2 k j) = argWp m c (ix2 k j) := by
  blk_simp [iblk, idx t]
  entry_read
  pointwise []
  blk_ext [idx t]

theorem wg_read (j k : Fin 1024) : (iblk m c 11 t : Vec Ideal S1024x1024 .bf16) (ix2 j k) = argWg m c (ix2 j k) := by
  blk_simp [iblk, idx t]
  entry_read
  pointwise []
  blk_ext [idx t]

/-- The head of each channel: its number divided by 64, rounded down, as the host computes it. -/
def headOf : IVec S1024 32 :=
  select
    (andi
      (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem headOf_at (j : Fin 1024) : headOf (ix1 j) = BitVec.ofNat 32 (j.val / 64) := by
  pointwise [headOf]
  revert j
  decide +kernel

/-- The 0/1 matrix, as the host computes it from the heads. -/
def sames : FVec Ideal S1024x1024 .bf16 :=
  uitofp .bf16 (cmpi .eq
    (broadcastInDim S1024x1024 ![0, 1] bcast_S1024x1_S1024x1024_0_1 (broadcastInDim S1024x1 ![0] bcast_S1024_S1024x1_0 headOf))
    (broadcastInDim S1024x1024 ![0, 1] bcast_S1x1024_S1024x1024_0_1 (broadcastInDim S1x1024 ![1] bcast_S1024_S1x1024_1 headOf)))

theorem sames_at (j k : Fin 1024) : sames (ix2 j k) = same j k := by
  pointwise [sames]
  simp only [headOf_at]
  by_cases h : j.val / 64 = k.val / 64
  · rw [h, same, if_pos h, IntOp.cmpi, beq_self_eq_true]
    simp [FloatOps.uitofp]
  · have hne : BitVec.ofNat 32 (j.val / 64) ≠ BitVec.ofNat 32 (k.val / 64) := fun e => h (by
      have := congrArg BitVec.toNat e
      simp only [BitVec.toNat_ofNat] at this
      omega)
    rw [same, if_neg h, IntOp.cmpi, beq_eq_false_iff_ne.mpr hne]
    simp [FloatOps.uitofp]

theorem V_sames : V m c main_v7 = sames := by
  after_reads_simp
  rfl

/-- The staged 0/1 matrix tells which channels are of one head. -/
theorem q_read (j k : Fin 1024) : (iblk m c 6 t : Vec Ideal S1024x1024 .bf16) (ix2 j k) = same j k := by
  rw [← sames_at, ← V_sames m c]
  blk_simp [iblk, idx t]
  blk_ext [idx t]

open Cert.Reference4Ideal.Tail

/-- The reference's result of the arguments at launch. -/
abbrev resultAt : FVec Ideal S16384x1024 .f32 :=
  result (argH m c) (branchIn (argY m c) (argB m c) (argLw m c) (argLb m c)) (argZ m c) (argP m c) (argW m c) (argG m c) (argWp m c) (argWg m c)

/-- The output array after the run is the reference's result. -/
theorem final (hy : ∀ i, Heads.Finite (argY m c i)) : (dats m 0 c).arrAt 12 cfg0.N = resultAt m c := by
  refine (dats m 0 c).arrAt_eq_of_covers 12 _ (by decide +kernel) fun t hf y => ?_
  blk_simp
  rw [after0_12]
  idx_vars y
  have e : ((cfg0.win 12).blk t).view.emb (ix2 y0 y1 : S256x1024.Idx) = (ix2 (rowOf t y0) y1 : S16384x1024.Idx) := by
    blk_ext [idx t]
  refine Eq.trans ?_ (congrArg (resultAt m c) e.symm)
  rw [out_at _ _ _ _ _ _ _ _ _ _ _ _ _ _ (q_read m c t) fun j => (row_read m c t y0 j).2.1 ▸ hy _]
  refine Eq.trans ?_ (result_at _ _ _ _ _ _ _ _ _ _).symm
  unfold branchRow
  simp only [fun d => (row_read m c t y0 d).1, fun d => (row_read m c t y0 d).2.1, fun d => (row_read m c t y0 d).2.2.1,
    fun d => (row_read m c t y0 d).2.2.2, fun d => (vec_read m c t d).1, fun d => (vec_read m c t d).2.1, fun d => (vec_read m c t d).2.2,
    p_read, w_read, wp_read, wg_read, branchIn_at]

end Cert.Kernel4Ideal.Tail

end
-- ==== Proof.NormTailClaims.lean ====
/-
  The claims of the layer's end with the branch normed within each head: each program's run, put beside the other's.
-/
module

public import proofs.«01_k».proof.Defs
public import proofs.«01_k».proof.Proof.NormTailArrays
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal

@[expose] public section

noncomputable section

open Idealize.ShloMosaic Idealize.SL.Sem

namespace Cert.NormTail.Claims

/-- The kernel terminates without a fault and leaves its arguments and every semaphore as they were. -/
theorem frame_kernel : Cert.quiescent_Kernel4 := fun m ρ _ => Cert.Kernel4.Gen.frame m ρ

/-- The same of its idealization. -/
theorem frame_ideal : Cert.quiescent_Kernel4Ideal := fun m ρ _ => Cert.Kernel4Ideal.Gen.frame m ρ

/-- The same of the reference, which declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Tail.run m ρ)

instance facts_finite4 : Cert.Pre_finite4.Facts := ⟨by decide⟩

/-- The idealization's frame under the precondition. -/
theorem frame_ideal_pre : Cert.quiescent_Kernel4Ideal_pre_finite4 := fun m ρ _ => Cert.Kernel4Ideal.Gen.frame m ρ

/-- The reference's frame under the precondition. -/
theorem frame_reference_pre : Cert.quiescent_Reference4Ideal_pre_finite4 := fun m ρ _ => frame_reference m ρ trivial

/-- The idealization is the kernel, with no operation replaced. -/
theorem preserves : Cert.preserves_Kernel4_Kernel4Ideal := trivial

/-- The precondition says that no entry of the branch's output is infinite. -/
theorem finite (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) (i : Cert.Kernel4Ideal.S16384x1024.Idx) :
    Cert.Heads.Finite (Cert.Kernel4Ideal.Tail.argY m c i) := by
  have e := congrFun (h c) i
  idx_vars i
  pointwise [Cert.Pre_finite4.fn] at e
  exact Cert.Heads.finite_of_abs e

/-- Over the extended reals the kernel's result is the reference's, from the same arguments. -/
theorem algebraic : Cert.algebraic_Kernel4Ideal_Reference4Ideal_pre_finite4 := by
  intro m ρ m' ρ' hpre hagree
  refine ⟨fun c => Cert.Reference4Ideal.Tail.resultOf m' c, ?_, Cert.Reference4Ideal.Tail.run m' ρ'⟩
  refine (θ_run Cert.Kernel4Ideal.defs _ _).mono (fun _ h c => ⟨(h c).1.trans ?_, (h c).2⟩) (Cert.Kernel4Ideal.Value.run_blocks (F := Ideal) m ρ)
  show _ = Cert.Reference4Ideal.Tail.resultOf m' c
  obtain ⟨h0, h1, h2, h3, h4, h5, h6, h7, h8, h9, h10⟩ := hagree c
  unfold Cert.Reference4Ideal.Tail.resultOf
  rw [Cert.Kernel4Ideal.Tail.final m c (finite m hpre c), h0, h1, h2, h3, h4, h5, h6, h7, h8, h9, h10]

end Cert.NormTail.Claims

end
-- ==== Proof.SampleTail.lean ====
/-
  The layer's end for the sample: the reference's arrays read at an index, and the array after the kernel's run.
  The blocks are of the same shape as the prompt's, so what the body leaves is known from there.
-/
module

public import proofs.«01_k».proof.Proof.TailRead
public import proofs.«01_k».proof.Proof.Gen.Kernel5Ideal.Value
public import proofs.«01_k».proof.Proof.Gen.Reference5Ideal
public import proofs.«01_k».proof.Proof.Gen.Reference5Ideal.Run

@[expose] public section

set_option maxRecDepth 16384

noncomputable section

open Idealize.ShloMosaic Idealize.ShloMosaic.TcCoe Idealize.SL.Sem

namespace Cert.Reference5Ideal.Tail

open Cert.Reference5Ideal Cert.Reference5Ideal.Gen Cert.Rows

section
variable (h y z : FVec Ideal S1024x1024 .f32) (p : FVec Ideal S1024x256 .f32) (w : FVec Ideal S1024x1024 .f32) (g : FVec Ideal S1024 .f32)
  (wp : FVec Ideal S256x1024 .f32) (wg : FVec Ideal S1024x1024 .f32) (x : FVec Ideal S1024x1024 .f32) (r : Fin 1024) (d : Fin 1024)

/-- The normed rows. -/
def normed : FVec Ideal S1024x1024 .f32 :=
  mulf (mulf x (broadcastInDim S1024x1024 ![0, 1] bcast_S1024x1_S1024x1024_0_1 (Host.rsqrt (addf (Host.divf (broadcastInDim S1024x1 ![0] bcast_S1024_S1024x1_0 (Host.reduceAdd (mulf x x) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

/-- The hidden state with the branch joined. -/
def withBranch : FVec Ideal S1024x1024 .f32 :=
  addf h (normed g (Host.dotGeneral dot_S1024x1024_S1024x1024_S1024x1024_1_0_0_1_n_n none (mulf y z) w))

/-- The gates of the embedding. -/
def gates : FVec Ideal S1024x1024 .f32 :=
  Host.divf (broadcastInDim S1024x1024 ![] bcast_S_S1024x1024 (constant S_ .f32 0x3F800000#32)) (addf (broadcastInDim S1024x1024 ![] bcast_S_S1024x1024 (constant S_ .f32 0x3F800000#32)) (Host.exp (Host.negf (Host.dotGeneral dot_S1024x1024_S1024x1024_S1024x1024_1_0_0_1_n_n none x wg))))

/-- The result. -/
def result : FVec Ideal S1024x1024 .f32 :=
  addf (withBranch h y z w g) (mulf (Host.dotGeneral dot_S1024x256_S256x1024_S1024x1024_1_0_0_1_n_n none p wp) (gates wg (withBranch h y z w g)))

theorem normed_at : normed g x (ix2 r d) = nrm (fun j => x (ix2 r j)) (g (ix1 d)) d := by
  pointwise [normed]
  rfl

theorem withBranch_at : withBranch h y z w g (ix2 r d)
    = joined (fun j => h (ix2 r j)) (fun j => y (ix2 r j)) (fun j => z (ix2 r j)) (fun j k => w (ix2 j k)) (fun j => g (ix1 j)) d := by
  pointwise [withBranch]
  rw [normed_at]
  pointwise []
  rfl

theorem gates_at : gates wg x (ix2 r d) = sgm (∑ j, x (ix2 r j) * wg (ix2 j d)) := by
  pointwise [gates]
  rfl

theorem result_at : result h y z p w g wp wg (ix2 r d)
    = ended (fun j => h (ix2 r j)) (fun j => y (ix2 r j)) (fun j => z (ix2 r j)) (fun k => p (ix2 r k)) (fun j k => w (ix2 j k))
        (fun j => g (ix1 j)) (fun k j => wp (ix2 k j)) (fun j k => wg (ix2 j k)) d := by
  pointwise [result]
  rw [gates_at]
  simp only [withBranch_at]
  rfl
end

/-- The result of the arguments at launch. -/
abbrev resultOf (m : (ℓ : Loc nD τ sig) → Buf (Elt Ideal) ℓ) (c : Dev nD) : FVec Ideal S1024x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

end Cert.Reference5Ideal.Tail

namespace Cert.Kernel5Ideal.Tail

open Cert.Kernel5Ideal Cert.Kernel5Ideal.Gen Cert.Rows

/-- What the body leaves: the same as for the prompt. -/
theorem out_at (h y z : Vec Ideal S256x1024 .f32) (p : Vec Ideal S256x256 .f32) (w : Vec Ideal S1024x1024 .bf16) (g : Vec Ideal S1x1024 .f32)
    (wp : Vec Ideal S256x1024 .bf16) (wg : Vec Ideal S1024x1024 .bf16) (r : Fin 256) (d : Fin 1024) :
    out0_8 h y z p w g wp wg (ix2 r d)
      = ended (fun j => h (ix2 r j)) (fun j => y (ix2 r j)) (fun j => z (ix2 r j)) (fun k => p (ix2 r k)) (fun j k => w (ix2 j k))
          (fun j => g (ix2 0 j)) (fun k j => wp (ix2 k j)) (fun j k => wg (ix2 j k)) d :=
  Cert.Kernel2Ideal.Tail.out_at h y z p w g wp wg r d

/-- The block indices of every window at a grid point: a block of rows, and the whole of each weight. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

theorem lt4 (t : Fin cfg0.N) : t.val < 4 := t.isLt

variable (m : (ℓ : Loc nD τ sig) → Buf (Elt Ideal) ℓ) (c : Dev nD) (t : Fin cfg0.N)

/-- The hidden state at launch. -/
abbrev argH : FVec Ideal S1024x1024 .f32 := m ((c.tc : Thread nD τ).loc main_arg0)
/-- The branch's output at launch. -/
abbrev argY : FVec Ideal S1024x1024 .f32 := m ((c.tc : Thread nD τ).loc main_arg1)
/-- The branch's gates at launch. -/
abbrev argZ : FVec Ideal S1024x1024 .f32 := m ((c.tc : Thread nD τ).loc main_arg2)
/-- The embeddings at launch. -/
abbrev argP : FVec Ideal S1024x256 .f32 := m ((c.tc : Thread nD τ).loc main_arg3)
/-- The branch's output weights at launch. -/
abbrev argW : FVec Ideal S1024x1024 .f32 := m ((c.tc : Thread nD τ).loc main_arg4)
/-- The gains at launch. -/
abbrev argG : FVec Ideal S1024 .f32 := m ((c.tc : Thread nD τ).loc main_arg5)
/-- The embeddings' weights at launch. -/
abbrev argWp : FVec Ideal S256x1024 .f32 := m ((c.tc : Thread nD τ).loc main_arg6)
/-- The gate weights at launch. -/
abbrev argWg : FVec Ideal S1024x1024 .f32 := m ((c.tc : Thread nD τ).loc main_arg7)

/-- A row of a block of rows, as a row of the array. -/
abbrev rowOf (r : Fin 256) : Fin 1024 := ⟨256 * t.val + r.val, by have := lt4 t; omega⟩

/-- Each staged block of rows is those rows of its argument. -/
theorem row_read (r : Fin 256) (d : Fin 1024) :
    (iblk m c 0 t : Vec Ideal S256x1024 .f32) (ix2 r d) = argH m c (ix2 (rowOf t r) d)
    ∧ (iblk m c 1 t : Vec Ideal S256x1024 .f32) (ix2 r d) = argY m c (ix2 (rowOf t r) d)
    ∧ (iblk m c 2 t : Vec Ideal S256x1024 .f32) (ix2 r d) = argZ m c (ix2 (rowOf t r) d) := by
  refine ⟨?_, ?_, ?_⟩ <;> blk_ext [iblk, V, idx t]

theorem p_read (r k : Fin 256) : (iblk m c 3 t : Vec Ideal S256x256 .f32) (ix2 r k) = argP m c (ix2 (rowOf t r) k) := by
  blk_ext [iblk, V, idx t]

/-- The staged gains are the gains. -/
theorem g_read (d : Fin 1024) : (iblk m c 5 t : Vec Ideal S1x1024 .f32) (ix2 0 d) = argG m c (ix1 d) := by
  blk_simp [iblk, idx t]
  entry_read
  pointwise []
  blk_ext [idx t]

/-- The staged weights are the weights. -/
theorem w_read (j k : Fin 1024) : (iblk m c 4 t : Vec Ideal S1024x1024 .bf16) (ix2 j k) = argW m c (ix2 j k) := by
  blk_simp [iblk, idx t]
  entry_read
  pointwise []
  blk_ext [idx t]

theorem wp_read (k : Fin 256) (j : Fin 1024) : (iblk m c 6 t : Vec Ideal S256x1024 .bf16) (ix2 k j) = argWp m c (ix2 k j) := by
  blk_simp [iblk, idx t]
  entry_read
  pointwise []
  blk_ext [idx t]

theorem wg_read (j k : Fin 1024) : (iblk m c 7 t : Vec Ideal S1024x1024 .bf16) (ix2 j k) = argWg m c (ix2 j k) := by
  blk_simp [iblk, idx t]
  entry_read
  pointwise []
  blk_ext [idx t]

open Cert.Reference5Ideal.Tail

/-- The output array after the run is the reference's result. -/
theorem final : (dats m 0 c).arrAt 8 cfg0.N = result (argH m c) (argY m c) (argZ m c) (argP m c) (argW m c) (argG m c) (argWp m c) (argWg m c) := by
  refine (dats m 0 c).arrAt_eq_of_covers 8 _ (by decide +kernel) fun t hf y => ?_
  blk_simp
  rw [after0_8]
  idx_vars y
  have e : ((cfg0.win 8).blk t).view.emb (ix2 y0 y1 : S256x1024.Idx) = (ix2 (rowOf t y0) y1 : S1024x1024.Idx) := by
    blk_ext [idx t]
  refine Eq.trans ?_ (congrArg (result (argH m c) (argY m c) (argZ m c) (argP m c) (argW m c) (argG m c) (argWp m c) (argWg m c)) e.symm)
  rw [out_at, result_at]
  simp only [fun d => (row_read m c t y0 d).1, fun d => (row_read m c t y0 d).2.1, fun d => (row_read m c t y0 d).2.2,
    p_read, g_read, w_read, wp_read, wg_read]

end Cert.Kernel5Ideal.Tail

end
-- ==== Proof.SampleProj.lean ====
/-
  The projections for the sample: what each block the kernel writes holds, the reference's arrays read at an index, and
  each array after the kernel's run.
-/
module

public import proofs.«01_k».proof.Proof.ProjRead
public import proofs.«01_k».proof.Proof.Gen.Kernel6Ideal.Value
public import proofs.«01_k».proof.Proof.Gen.Reference6Ideal
public import proofs.«01_k».proof.Proof.Gen.Reference6Ideal.Run

@[expose] public section

set_option maxRecDepth 16384

noncomputable section

open Idealize.ShloMosaic Idealize.ShloMosaic.TcCoe Idealize.SL.Sem

namespace Cert.Reference6Ideal.Proj

open Cert.Reference6Ideal Cert.Reference6Ideal.Gen Cert.Rows

section
variable (x : FVec Ideal S1024x1024 .f32) (g : FVec Ideal S1024 .f32) (w : FVec Ideal S1024x4096 .f32)

/-- The normed rows. -/
def normed : FVec Ideal S1024x1024 .f32 :=
  mulf (mulf x (broadcastInDim S1024x1024 ![0, 1] bcast_S1024x1_S1024x1024_0_1 (Host.rsqrt (addf (Host.divf (broadcastInDim S1024x1 ![0] bcast_S1024_S1024x1_0 (Host.reduceAdd (mulf x x) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

/-- The normed rows against every column of the weights. -/
def prod : FVec Ideal S1024x4096 .f32 := Host.dotGeneral dot_S1024x1024_S1024x4096_S1024x4096_1_0_0_1_n_n none (normed x g) w

variable (y : FVec Ideal S1024x4096 .f32)

/-- The queries. -/
def resQ : FVec Ideal S1024x1024 .bf16 :=
  truncf .bf16 (Host.divf (mulf (extractStridedSlice S1024x1024 ![0, 0] y slices_S1024x4096_S1024x1024_0_0) (broadcastInDim S1024x1024 ![] bcast_S_S1024x1024 (constant S_ .f32 0x3E000000#32))) (broadcastInDim S1024x1024 ![] bcast_S_S1024x1024 (id (Host.log (constant S_ .f32 0x40000000#32))))) bitsLt_bf16_f32

/-- The keys. -/
def resK : FVec Ideal S1024x1024 .f32 := extractStridedSlice S1024x1024 ![0, 1024] y slices_S1024x4096_S1024x1024_0_1024

/-- The values. -/
def resV : FVec Ideal S1024x1024 .f32 := extractStridedSlice S1024x1024 ![0, 2048] y slices_S1024x4096_S1024x1024_0_2048

/-- The gates. -/
def resZ : FVec Ideal S1024x1024 .f32 :=
  let z := extractStridedSlice S1024x1024 ![0, 3072] y slices_S1024x4096_S1024x1024_0_3072
  mulf z (Host.divf (broadcastInDim S1024x1024 ![] bcast_S_S1024x1024 (constant S_ .f32 0x3F800000#32)) (addf (broadcastInDim S1024x1024 ![] bcast_S_S1024x1024 (constant S_ .f32 0x3F800000#32)) (Host.exp (Host.negf z))))

/-- The keys, rounded. -/
def resKb : FVec Ideal S1024x1024 .bf16 := truncf .bf16 (resK y) bitsLt_bf16_f32

/-- The values, rounded. -/
def resVb : FVec Ideal S1024x1024 .bf16 := truncf .bf16 (resV y) bitsLt_bf16_f32

variable (r : Fin 1024) (d : Fin 1024) (e : Fin 4096)

theorem normed_at : normed x g (ix2 r d) = nrm (fun j => x (ix2 r j)) (g (ix1 d)) d := by
  pointwise [normed]
  rfl

theorem prod_at : prod x g w (ix2 r e) = ∑ j, nrm (fun j => x (ix2 r j)) (g (ix1 j)) j * w (ix2 j e) := by
  pointwise [prod]
  exact Finset.sum_congr rfl fun j _ => by rw [normed_at]

theorem resQ_at : resQ y (ix2 r d) = y (ix2 r ⟨d.val, by omega⟩) * ((8⁻¹ * (Real.log 2)⁻¹ : ℝ) : EReal) := by
  pointwise [resQ]
  have e8 : Ideal.ofBits .f32 1040187392#32 = ((8⁻¹ : ℝ) : EReal) := by
    simp [Ideal.ofBits, Ideal.ieee, -EReal.coe_mul]; norm_num
  have e2 : Ideal.ofBits .f32 1073741824#32 = ((2 : ℝ) : EReal) := by
    simp [Ideal.ofBits, Ideal.ieee, -EReal.coe_mul]; norm_num
  show Ideal.div (_ * Ideal.ofBits .f32 1040187392#32) (Ideal.log (Ideal.ofBits .f32 1073741824#32)) = _
  rw [e8, e2, Ideal.log_coe, if_neg (by norm_num), Ideal.div_coe (Real.log_pos one_lt_two).ne', mul_assoc, ← EReal.coe_mul, one_div]

theorem resK_at : resK y (ix2 r d) = y (ix2 r ⟨1024 + d.val, by omega⟩) := by
  pointwise [resK]

theorem resV_at : resV y (ix2 r d) = y (ix2 r ⟨2048 + d.val, by omega⟩) := by
  pointwise [resV]

theorem resZ_at : resZ y (ix2 r d) = y (ix2 r ⟨3072 + d.val, by omega⟩) * sgm (y (ix2 r ⟨3072 + d.val, by omega⟩)) := by
  pointwise [resZ]
  rfl

end

/-- The normed rows against the weights, of the arguments at launch. -/
abbrev prodOf (m : (ℓ : Loc nD τ sig) → Buf (Elt Ideal) ℓ) (c : Dev nD) : FVec Ideal S1024x4096 .f32 :=
  prod (m ((c.tc : Thread nD τ).loc main_arg0)) (m ((c.tc : Thread nD τ).loc main_arg1)) (m ((c.tc : Thread nD τ).loc main_arg2))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = resQ (prodOf m c)
      ∧ r.2.mem ((c.tc : Thread nD τ).loc main_v15) = resK (prodOf m c)
      ∧ r.2.mem ((c.tc : Thread nD τ).loc main_v16) = resV (prodOf m c)
      ∧ r.2.mem ((c.tc : Thread nD τ).loc main_v25) = resZ (prodOf m c)
      ∧ r.2.mem ((c.tc : Thread nD τ).loc main_v26) = resKb (prodOf m c)
      ∧ r.2.mem ((c.tc : Thread nD τ).loc main_v27) = resVb (prodOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.Reference6Ideal.Proj

namespace Cert.Kernel6Ideal.Proj

open Cert.Kernel6Ideal Cert.Kernel6Ideal.Gen Cert.Rows
open Cert.Kernel3Ideal.Proj (qs dotRow hz2)

theorem named_qs : (Named.named κ "qscale" 1043900987#32 : Ideal .f32) = qs := by
  unfold qs
  exact IdealRules.named_const.ideal_named_scalar _ _ _ _ rfl

section
variable (h : Vec Ideal S256x1024 .f32) (g : Vec Ideal S1x1024 .f32) (w : Vec Ideal S1024x4096 .bf16) (r : Fin 256) (d : Fin 1024)

theorem ld_h : View.ld h r0_0 = h := View.ld_unit_zero (S := S256x1024) hz2 _ _
theorem ld_g : View.ld g r0_1 = g := View.ld_unit_zero (S := S1x1024) hz2 _ _

/-- A normed row. -/
theorem normed_at : k0_pay2 h g (ix2 r d) = nrm (fun j => h (ix2 r j)) (g (ix2 0 d)) d := by
  pointwise [k0_pay2]
  rfl

theorem out_q : out0_3 h g w (ix2 r d) = dotRow h g w r ⟨d.val, by omega⟩ * qs := by
  unfold out0_3
  rw [View.canon_unit_zero (S := S256x1024) hz2, ld_h, ld_g]
  pointwise [k0_pay3]
  rw [named_qs]
  simp only [normed_at]
  rfl

theorem out_k : out0_4 h g w (ix2 r d) = dotRow h g w r ⟨1024 + d.val, by omega⟩ := by
  unfold out0_4
  rw [View.canon_unit_zero (S := S256x1024) hz2, ld_h, ld_g]
  pointwise [k0_pay4]
  simp only [normed_at]
  rfl

theorem out_v : out0_5 h g w (ix2 r d) = dotRow h g w r ⟨2048 + d.val, by omega⟩ := by
  unfold out0_5
  rw [View.canon_unit_zero (S := S256x1024) hz2, ld_h, ld_g]
  pointwise [k0_pay6]
  simp only [normed_at]
  rfl

theorem out_gz : out0_6 h g w (ix2 r d) = dotRow h g w r ⟨3072 + d.val, by omega⟩ * sgm (dotRow h g w r ⟨3072 + d.val, by omega⟩) := by
  unfold out0_6
  rw [View.canon_unit_zero (S := S256x1024) hz2, ld_h, ld_g]
  pointwise [k0_pay1]
  simp only [normed_at]
  rw [zero_sub]
  rfl

/-- The rounded keys and values are the keys and values: rounding is no change of an extended real. -/
theorem out_kb : out0_7 h g w (ix2 r d) = out0_4 h g w (ix2 r d) := by
  unfold out0_7 out0_4
  rw [View.canon_unit_zero (S := S256x1024) hz2, View.canon_unit_zero (S := S256x1024) hz2]
  rfl

theorem out_vb : out0_8 h g w (ix2 r d) = out0_5 h g w (ix2 r d) := by
  unfold out0_8 out0_5
  rw [View.canon_unit_zero (S := S256x1024) hz2, View.canon_unit_zero (S := S256x1024) hz2]
  rfl
end

/-- The block indices of every window at a grid point: a block of rows, and the whole of each weight. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt4 (t : Fin cfg0.N) : t.val < 4 := t.isLt

variable (m : (ℓ : Loc nD τ sig) → Buf (Elt Ideal) ℓ) (c : Dev nD) (t : Fin cfg0.N)

/-- The hidden state at launch. -/
abbrev argH : FVec Ideal S1024x1024 .f32 := m ((c.tc : Thread nD τ).loc main_arg0)
/-- The gains at launch. -/
abbrev argG : FVec Ideal S1024 .f32 := m ((c.tc : Thread nD τ).loc main_arg1)
/-- The weights at launch. -/
abbrev argW : FVec Ideal S1024x4096 .f32 := m ((c.tc : Thread nD τ).loc main_arg2)

/-- A row of a block of rows, as a row of the array. -/
abbrev rowOf (r : Fin 256) : Fin 1024 := ⟨256 * t.val + r.val, by have := lt4 t; omega⟩

/-- A staged row is a row of the hidden state. -/
theorem h_read (r : Fin 256) (d : Fin 1024) : (iblk m c 0 t : Vec Ideal S256x1024 .f32) (ix2 r d) = argH m c (ix2 (rowOf t r) d) := by
  blk_ext [iblk, V, idx t]

/-- The staged gains are the gains. -/
theorem g_read (d : Fin 1024) : (iblk m c 1 t : Vec Ideal S1x1024 .f32) (ix2 0 d) = argG m c (ix1 d) := by
  blk_simp [iblk, idx t]
  entry_read
  pointwise []
  blk_ext [idx t]

/-- The staged weights are the weights. -/
theorem w_read (j : Fin 1024) (e : Fin 4096) : (iblk m c 2 t : Vec Ideal S1024x4096 .bf16) (ix2 j e) = argW m c (ix2 j e) := by
  blk_simp [iblk, idx t]
  entry_read
  pointwise []
  blk_ext [idx t]

open Cert.Reference6Ideal.Proj

/-- The products of the arguments at launch. -/
abbrev prodAt : FVec Ideal S1024x4096 .f32 := prod (argH m c) (argG m c) (argW m c)

/-- A block's output through the projections at a row and column. -/
theorem dot_read (r : Fin 256) (e : Fin 4096) : dotRow (iblk m c 0 t) (iblk m c 1 t) (iblk m c 2 t) r e = prodAt m c (ix2 (rowOf t r) e) := by
  refine Eq.trans ?_ (prod_at _ _ _ _ _).symm
  simp only [dotRow, h_read, g_read, w_read]

/-- The queries. -/
theorem final_q : (dats m 0 c).arrAt 3 cfg0.N = resQ (prodAt m c) := by
  refine (dats m 0 c).arrAt_eq_of_covers 3 _ (by decide +kernel) fun t hf y => ?_
  blk_simp
  rw [after0_3]
  idx_vars y
  have e : ((cfg0.win 3).blk t).view.emb (ix2 y0 y1 : S256x1024.Idx) = (ix2 (rowOf t y0) y1 : S1024x1024.Idx) := by
    blk_ext [idx t]
  refine Eq.trans ?_ (congrArg (resQ (prodAt m c)) e.symm)
  rw [out_q, dot_read, resQ_at]
  rfl

/-- The keys. -/
theorem final_k : (dats m 0 c).arrAt 4 cfg0.N = resK (prodAt m c) := by
  refine (dats m 0 c).arrAt_eq_of_covers 4 _ (by decide +kernel) fun t hf y => ?_
  blk_simp
  rw [after0_4]
  idx_vars y
  have e : ((cfg0.win 4).blk t).view.emb (ix2 y0 y1 : S256x1024.Idx) = (ix2 (rowOf t y0) y1 : S1024x1024.Idx) := by
    blk_ext [idx t]
  refine Eq.trans ?_ (congrArg (resK (prodAt m c)) e.symm)
  rw [out_k, dot_read, resK_at]

/-- The values. -/
theorem final_v : (dats m 0 c).arrAt 5 cfg0.N = resV (prodAt m c) := by
  refine (dats m 0 c).arrAt_eq_of_covers 5 _ (by decide +kernel) fun t hf y => ?_
  blk_simp
  rw [after0_5]
  idx_vars y
  have e : ((cfg0.win 5).blk t).view.emb (ix2 y0 y1 : S256x1024.Idx) = (ix2 (rowOf t y0) y1 : S1024x1024.Idx) := by
    blk_ext [idx t]
  refine Eq.trans ?_ (congrArg (resV (prodAt m c)) e.symm)
  rw [out_v, dot_read, resV_at]

/-- The gates. -/
theorem final_gz : (dats m 0 c).arrAt 6 cfg0.N = resZ (prodAt m c) := by
  refine (dats m 0 c).arrAt_eq_of_covers 6 _ (by decide +kernel) fun t hf y => ?_
  blk_simp
  rw [after0_6]
  idx_vars y
  have e : ((cfg0.win 6).blk t).view.emb (ix2 y0 y1 : S256x1024.Idx) = (ix2 (rowOf t y0) y1 : S1024x1024.Idx) := by
    blk_ext [idx t]
  refine Eq.trans ?_ (congrArg (resZ (prodAt m c)) e.symm)
  rw [out_gz, dot_read, resZ_at]

/-- The keys, rounded. -/
theorem final_kb : (dats m 0 c).arrAt 7 cfg0.N = resKb (prodAt m c) := by
  refine (dats m 0 c).arrAt_eq_of_covers 7 _ (by decide +kernel) fun t hf y => ?_
  blk_simp
  rw [after0_7]
  idx_vars y
  have e : ((cfg0.win 7).blk t).view.emb (ix2 y0 y1 : S256x1024.Idx) = (ix2 (rowOf t y0) y1 : S1024x1024.Idx) := by
    blk_ext [idx t]
  refine Eq.trans ?_ (congrArg (resKb (prodAt m c)) e.symm)
  rw [out_kb, out_k, dot_read]
  exact (resK_at _ _ _).symm

/-- The values, rounded. -/
theorem final_vb : (dats m 0 c).arrAt 8 cfg0.N = resVb (prodAt m c) := by
  refine (dats m 0 c).arrAt_eq_of_covers 8 _ (by decide +kernel) fun t hf y => ?_
  blk_simp
  rw [after0_8]
  idx_vars y
  have e : ((cfg0.win 8).blk t).view.emb (ix2 y0 y1 : S256x1024.Idx) = (ix2 (rowOf t y0) y1 : S1024x1024.Idx) := by
    blk_ext [idx t]
  refine Eq.trans ?_ (congrArg (resVb (prodAt m c)) e.symm)
  rw [out_vb, out_v, dot_read]
  exact (resV_at _ _ _).symm

end Cert.Kernel6Ideal.Proj

end
-- ==== Proof.SampleClaims.lean ====
/-
  The claims of the sample's two calls: each program's run, put beside the other's.
-/
module

public import proofs.«01_k».proof.Defs
public import proofs.«01_k».proof.Proof.SampleTail
public import proofs.«01_k».proof.Proof.SampleProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal

@[expose] public section

noncomputable section

open Idealize.ShloMosaic Idealize.SL.Sem

namespace Cert.SampleTail.Claims

/-- The kernel terminates without a fault and leaves its arguments and every semaphore as they were. -/
theorem frame_kernel : Cert.quiescent_Kernel5 := fun m ρ _ => Cert.Kernel5.Gen.frame m ρ

/-- The same of its idealization. -/
theorem frame_ideal : Cert.quiescent_Kernel5Ideal := fun m ρ _ => Cert.Kernel5Ideal.Gen.frame m ρ

/-- The same of the reference, which declares no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Tail.run m ρ)

/-- The idealization is the kernel, with no operation replaced. -/
theorem preserves : Cert.preserves_Kernel5_Kernel5Ideal := trivial

/-- Over the extended reals the kernel's result is the reference's, from the same arguments. -/
theorem algebraic : Cert.algebraic_Kernel5Ideal_Reference5Ideal := by
  intro m ρ m' ρ' _ hagree
  refine ⟨fun c => Cert.Reference5Ideal.Tail.resultOf m' c, ?_, Cert.Reference5Ideal.Tail.run m' ρ'⟩
  refine (θ_run Cert.Kernel5Ideal.defs _ _).mono (fun _ h c => ⟨(h c).1.trans ?_, (h c).2⟩) (Cert.Kernel5Ideal.Value.run_blocks (F := Ideal) m ρ)
  show _ = Cert.Reference5Ideal.Tail.resultOf m' c
  obtain ⟨h0, h1, h2, h3, h4, h5, h6, h7⟩ := hagree c
  unfold Cert.Reference5Ideal.Tail.resultOf
  rw [Cert.Kernel5Ideal.Tail.final, h0, h1, h2, h3, h4, h5, h6, h7]

end Cert.SampleTail.Claims

namespace Cert.SampleProj.Claims

/-- The kernel terminates without a fault and leaves its arguments and every semaphore as they were. -/
theorem frame_kernel : Cert.quiescent_Kernel6 := fun m ρ _ => Cert.Kernel6.Gen.frame m ρ

/-- The same of its idealization. -/
theorem frame_ideal : Cert.quiescent_Kernel6Ideal := fun m ρ _ => Cert.Kernel6Ideal.Gen.frame m ρ

/-- The same of the reference, which declares no semaphore. -/
theorem frame_reference : Cert.quiescent_Reference6Ideal := fun m ρ _ =>
  (θ_run Cert.Reference6Ideal.defs _ _).mono
    (fun r h => ⟨fun c => (h c).2.2.2.2.2.2, sem_eq_zero_of_no_sems (by decide) r.2⟩)
    (Cert.Reference6Ideal.Proj.run m ρ)

/-- The named constant is the real `log2(e) / 8`. -/
theorem preserves : Cert.preserves_Kernel6_Kernel6Ideal :=
  IdealRules.named_const.statement Cert.Kernel6Ideal.κ "qscale" .f32 0x3E38AA3B#32 ((8⁻¹ * (Real.log 2)⁻¹ : ℝ) : EReal) rfl

/-- Over the extended reals the kernel's six results are the reference's, from the same arguments. -/
theorem algebraic : Cert.algebraic_Kernel6Ideal_Reference6Ideal := by
  intro m ρ m' ρ' _ hagree
  have e : ∀ c : Dev Cert.Kernel6Ideal.nD, Cert.Kernel6Ideal.Proj.prodAt m c = Cert.Reference6Ideal.Proj.prodOf m' c := fun c => by
    unfold Cert.Reference6Ideal.Proj.prodOf Cert.Kernel6Ideal.Proj.prodAt
    rw [(hagree c).1, (hagree c).2.1, (hagree c).2.2]
  refine ⟨_, _, _, _, _, _, ?_, Cert.Reference6Ideal.Proj.run m' ρ'⟩
  refine (θ_run Cert.Kernel6Ideal.defs _ _).mono (fun _ h c => ?_) (Cert.Kernel6Ideal.Value.run_blocks (F := Ideal) m ρ)
  obtain ⟨h1, h2, h3, h4, h5, h6, h⟩ := h c
  exact ⟨h1.trans ((Cert.Kernel6Ideal.Proj.final_q m c).trans (congrArg _ (e c))),
    h2.trans ((Cert.Kernel6Ideal.Proj.final_k m c).trans (congrArg _ (e c))),
    h3.trans ((Cert.Kernel6Ideal.Proj.final_v m c).trans (congrArg _ (e c))),
    h4.trans ((Cert.Kernel6Ideal.Proj.final_gz m c).trans (congrArg _ (e c))),
    h5.trans ((Cert.Kernel6Ideal.Proj.final_kb m c).trans (congrArg _ (e c))),
    h6.trans ((Cert.Kernel6Ideal.Proj.final_vb m c).trans (congrArg _ (e c))), h⟩

end Cert.SampleProj.Claims

end
-- ==== Proof.SampleNormTail.lean ====
/-
  The end of the other mixer's layer for the sample: the reference's arrays read at an index, and the array after the kernel's run.
  The blocks are of the same shape as the prompt's, and after the branch is normed the reference is the other layer's.
-/
module

public import proofs.«01_k».proof.Proof.NormTailArrays
public import proofs.«01_k».proof.Proof.SampleTail
public import proofs.«01_k».proof.Proof.Gen.Kernel7Ideal.Value
public import proofs.«01_k».proof.Proof.Gen.Reference7Ideal
public import proofs.«01_k».proof.Proof.Gen.Reference7Ideal.Run

@[expose] public section

set_option maxRecDepth 16384

noncomputable section

open Idealize.ShloMosaic Idealize.ShloMosaic.TcCoe Idealize.SL.Sem

namespace Cert.Reference7Ideal.Tail

open Cert.Reference7Ideal Cert.Reference7Ideal.Gen Cert.Rows Cert.Heads

section
variable (y b : FVec Ideal S1024x1024 .f32) (lw lb : FVec Ideal S1024 .f32) (r : Fin 1024) (d : Fin 1024)

/-- A row's channels by head. -/
def heads : FVec Ideal S1024x16x64 .f32 := shapeCast _ y shapeCasts_S1024x1024_S1024x16x64

/-- The mean over each head, for each of the head's channels. -/
def means (u : FVec Ideal S1024x16x64 .f32) : FVec Ideal S1024x16x1 .f32 :=
  Host.divf (broadcastInDim S1024x16x1 ![0, 1] bcast_S1024x16_S1024x16x1_0_1 (Host.reduceAdd u (constant S_ .f32 0x00000000#32) reducesTo_S1024x16x64_S1024x16_d2 h_S_)) (broadcastInDim S1024x16x1 ![] bcast_S_S1024x16x1 (constant S_ .f32 0x42800000#32))

/-- Each channel less its head's mean. -/
def devs : FVec Ideal S1024x16x64 .f32 :=
  subf (heads y) (broadcastInDim S1024x16x64 ![0, 1, 2] bcast_S1024x16x1_S1024x16x64_0_1_2 (means (heads y)))

/-- A vector of channels, for every row. -/
def rows (v : FVec Ideal S1024 .f32) : FVec Ideal S1024x1024 .f32 :=
  broadcastInDim S1024x1024 ![0, 1] bcast_S1x1024_S1024x1024_0_1 (broadcastInDim S1x1024 ![1] bcast_S1024_S1x1024_1 v)

/-- The branch normed within each head, and the bonus. -/
def branchIn : FVec Ideal S1024x1024 .f32 :=
  addf (addf (mulf (shapeCast _ (mulf (devs y) (broadcastInDim S1024x16x64 ![0, 1, 2] bcast_S1024x16x1_S1024x16x64_0_1_2
    (Host.rsqrt (addf (means (mulf (devs y) (devs y))) (broadcastInDim S1024x16x1 ![] bcast_S_S1024x16x1 (constant S_ .f32 0x3A27C5AC#32))))))
      shapeCasts_S1024x16x64_S1024x1024) (rows lw)) (rows lb)) b

theorem heads_at (k : Fin 16) (n : Fin 64) : heads y (ix3 r k n) = y (ix2 r (⟨64 * k.val + n.val, by omega⟩ : Fin 1024)) := by
  pointwise [heads]
  exact congrArg (fun i => y (ix2 r i)) (Fin.ext (by simp only [Nat.mul_comm]))

theorem means_at (u : FVec Ideal S1024x16x64 .f32) (k : Fin 16) : means u (ix3 r k 0) = mean fun n => u (ix3 r k n) := by
  pointwise [means]
  rfl

theorem devs_at (k : Fin 16) (n : Fin 64) :
    devs y (ix3 r k n) = dev (fun j => y (ix2 r j)) (⟨64 * k.val + n.val, by omega⟩ : Fin 1024) := by
  pointwise [devs]
  simp only [means_at, heads_at]
  have : (⟨64 * k.val + n.val, by omega⟩ : Fin 1024).val / 64 = k.val := by simp only; omega
  simp only [dev, chan, this]

theorem branchIn_at :
    branchIn y b lw lb (ix2 r d)
      = Heads.normed (fun j => y (ix2 r j)) (fun j => lw (ix1 j)) (fun j => lb (ix1 j)) d + b (ix2 r d) := by
  pointwise [branchIn, rows]
  have h1 : (⟨64 * (d.val / 64) + d.val % 64, by omega⟩ : Fin 1024) = d := Fin.ext (by simp only; omega)
  rw [means_at]
  simp only [devs_at, h1, Heads.normed, mulf_apply]
  rfl

end

/-- The result of the arguments at launch. -/
abbrev resultOf (m : (ℓ : Loc nD τ sig) → Buf (Elt Ideal) ℓ) (c : Dev nD) : FVec Ideal S1024x1024 .f32 :=
  Cert.Reference5Ideal.Tail.result (m ((c.tc : Thread nD τ).loc main_arg0))
    (branchIn (m ((c.tc : Thread nD τ).loc main_arg1)) (m ((c.tc : Thread nD τ).loc main_arg3)) (m ((c.tc : Thread nD τ).loc main_arg4))
      (m ((c.tc : Thread nD τ).loc main_arg5)))
    (m ((c.tc : Thread nD τ).loc main_arg2)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run (F := Ideal) m ρ

end Cert.Reference7Ideal.Tail

namespace Cert.Kernel7Ideal.Tail

open Cert.Kernel7Ideal Cert.Kernel7Ideal.Gen Cert.Rows Cert.Heads

/-- The block indices of every window at a grid point: a block of rows, and the whole of each weight. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0]
    ∧ win0_8.index t = ![0, 0] ∧ win0_9.index t = ![0, 0] ∧ win0_10.index t = ![0, 0] ∧ win0_11.index t = ![0, 0]
    ∧ win0_12.index t = ![t.val, 0] :=
  (by decide +kernel : ∀ t : Fin grid0.N, _)

theorem lt4 (t : Fin cfg0.N) : t.val < 4 := t.isLt

variable (m : (ℓ : Loc nD τ sig) → Buf (Elt Ideal) ℓ) (c : Dev nD) (t : Fin cfg0.N)

/-- The hidden state at launch. -/
abbrev argH : FVec Ideal S1024x1024 .f32 := m ((c.tc : Thread nD τ).loc main_arg0)
/-- The branch's output at launch. -/
abbrev argY : FVec Ideal S1024x1024 .f32 := m ((c.tc : Thread nD τ).loc main_arg1)
/-- The branch's gates at launch. -/
abbrev argZ : FVec Ideal S1024x1024 .f32 := m ((c.tc : Thread nD τ).loc main_arg2)
/-- The bonus at launch. -/
abbrev argB : FVec Ideal S1024x1024 .f32 := m ((c.tc : Thread nD τ).loc main_arg3)
/-- The head norm's weights at launch. -/
abbrev argLw : FVec Ideal S1024 .f32 := m ((c.tc : Thread nD τ).loc main_arg4)
/-- The head norm's biases at launch. -/
abbrev argLb : FVec Ideal S1024 .f32 := m ((c.tc : Thread nD τ).loc main_arg5)
/-- The embeddings at launch. -/
abbrev argP : FVec Ideal S1024x256 .f32 := m ((c.tc : Thread nD τ).loc main_arg6)
/-- The branch's output weights at launch. -/
abbrev argW : FVec Ideal S1024x1024 .f32 := m ((c.tc : Thread nD τ).loc main_arg7)
/-- The gains at launch. -/
abbrev argG : FVec Ideal S1024 .f32 := m ((c.tc : Thread nD τ).loc main_arg8)
/-- The embeddings' weights at launch. -/
abbrev argWp : FVec Ideal S256x1024 .f32 := m ((c.tc : Thread nD τ).loc main_arg9)
/-- The gate weights at launch. -/
abbrev argWg : FVec Ideal S1024x1024 .f32 := m ((c.tc : Thread nD τ).loc main_arg10)

/-- A row of a block of rows, as a row of the array. -/
abbrev rowOf (r : Fin 256) : Fin 1024 := ⟨256 * t.val + r.val, by have := lt4 t; omega⟩

/-- Each staged block of rows is those rows of its argument. -/
theorem row_read (r : Fin 256) (d : Fin 1024) :
    (iblk m c 0 t : Vec Ideal S256x1024 .f32) (ix2 r d) = argH m c (ix2 (rowOf t r) d)
    ∧ (iblk m c 1 t : Vec Ideal S256x1024 .f32) (ix2 r d) = argY m c (ix2 (rowOf t r) d)
    ∧ (iblk m c 2 t : Vec Ideal S256x1024 .f32) (ix2 r d) = argZ m c (ix2 (rowOf t r) d)
    ∧ (iblk m c 3 t : Vec Ideal S256x1024 .f32) (ix2 r d) = argB m c (ix2 (rowOf t r) d) := by
  refine ⟨?_, ?_, ?_, ?_⟩ <;> blk_ext [iblk, V, idx t]

theorem p_read (r k : Fin 256) : (iblk m c 7 t : Vec Ideal S256x256 .f32) (ix2 r k) = argP m c (ix2 (rowOf t r) k) := by
  blk_ext [iblk, V, idx t]

/-- The staged vectors are the vectors. -/
theorem vec_read (d : Fin 1024) :
    (iblk m c 4 t : Vec Ideal S1x1024 .f32) (ix2 0 d) = argLw m c (ix1 d)
    ∧ (iblk m c 5 t : Vec Ideal S1x1024 .f32) (ix2 0 d) = argLb m c (ix1 d)
    ∧ (iblk m c 9 t : Vec Ideal S1x1024 .f32) (ix2 0 d) = argG m c (ix1 d) := by
  refine ⟨?_, ?_, ?_⟩ <;> (blk_simp [iblk, idx t]; after_reads_simp; pointwise []; blk_ext [idx t])

/-- The staged weights are the weights. -/
theorem w_read (j k : Fin 1024) : (iblk m c 8 t : Vec Ideal S1024x1024 .bf16) (ix2 j k) = argW m c (ix2 j k) := by
  blk_simp [iblk, idx t]
  entry_read
  pointwise []
  blk_ext [idx t]

theorem wp_read (k : Fin 256) (j : Fin 1024) : (iblk m c 10 t : Vec Ideal S256x1024 .bf16) (ix2 k j) = argWp m c (ix2 k j) := by
  blk_simp [iblk, idx t]
  entry_read
  pointwise []
  blk_ext [idx t]

theorem wg_read (j k : Fin 1024) : (iblk m c 11 t : Vec Ideal S1024x1024 .bf16) (ix2 j k) = argWg m c (ix2 j k) := by
  blk_simp [iblk, idx t]
  entry_read
  pointwise []
  blk_ext [idx t]

theorem V_sames : V m c main_v7 = Cert.Kernel4Ideal.Tail.sames := by
  after_reads_simp
  rfl

/-- The staged 0/1 matrix tells which channels are of one head. -/
theorem q_read (j k : Fin 1024) : (iblk m c 6 t : Vec Ideal S1024x1024 .bf16) (ix2 j k) = same j k := by
  rw [← Cert.Kernel4Ideal.Tail.sames_at, ← V_sames m c]
  blk_simp [iblk, idx t]
  blk_ext [idx t]

/-- The reference's result of the arguments at launch. -/
abbrev resultAt : FVec Ideal S1024x1024 .f32 :=
  Cert.Reference5Ideal.Tail.result (argH m c) (Cert.Reference7Ideal.Tail.branchIn (argY m c) (argB m c) (argLw m c) (argLb m c)) (argZ m c)
    (argP m c) (argW m c) (argG m c) (argWp m c) (argWg m c)

/-- The output array after the run is the reference's result. -/
theorem final (hy : ∀ i, Heads.Finite (argY m c i)) : (dats m 0 c).arrAt 12 cfg0.N = resultAt m c := by
  refine (dats m 0 c).arrAt_eq_of_covers 12 _ (by decide +kernel) fun t hf y => ?_
  blk_simp
  rw [after0_12]
  idx_vars y
  have e : ((cfg0.win 12).blk t).view.emb (ix2 y0 y1 : S256x1024.Idx) = (ix2 (rowOf t y0) y1 : S1024x1024.Idx) := by
    blk_ext [idx t]
  refine Eq.trans ?_ (congrArg (resultAt m c) e.symm)
  rw [show out0_12 = Cert.Kernel4Ideal.Gen.out0_12 from rfl, Cert.Kernel4Ideal.Tail.out_at _ _ _ _ _ _ _ _ _ _ _ _ _ _ (q_read m c t) fun j => (row_read m c t y0 j).2.1 ▸ hy _]
  refine Eq.trans ?_ (Cert.Reference5Ideal.Tail.result_at _ _ _ _ _ _ _ _ _ _).symm
  unfold Cert.Kernel4Ideal.Tail.branchRow
  simp only [fun d => (row_read m c t y0 d).1, fun d => (row_read m c t y0 d).2.1, fun d => (row_read m c t y0 d).2.2.1,
    fun d => (row_read m c t y0 d).2.2.2, fun d => (vec_read m c t d).1, fun d => (vec_read m c t d).2.1, fun d => (vec_read m c t d).2.2,
    p_read, w_read, wp_read, wg_read, Cert.Reference7Ideal.Tail.branchIn_at]

end Cert.Kernel7Ideal.Tail

end
-- ==== Proof.SampleNormTailClaims.lean ====
/-
  The claims of the end of the other mixer's layer for the sample: each program's run, put beside the other's.
-/
module

public import proofs.«01_k».proof.Defs
public import proofs.«01_k».proof.Proof.SampleNormTail
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal

@[expose] public section

noncomputable section

open Idealize.ShloMosaic Idealize.SL.Sem

namespace Cert.SampleNormTail.Claims

/-- The kernel terminates without a fault and leaves its arguments and every semaphore as they were. -/
theorem frame_kernel : Cert.quiescent_Kernel7 := fun m ρ _ => Cert.Kernel7.Gen.frame m ρ

/-- The same of its idealization. -/
theorem frame_ideal : Cert.quiescent_Kernel7Ideal := fun m ρ _ => Cert.Kernel7Ideal.Gen.frame m ρ

/-- The same of the reference, which declares no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Tail.run m ρ)

instance facts_finite7 : Cert.Pre_finite7.Facts := ⟨by decide⟩

/-- The idealization's frame under the precondition. -/
theorem frame_ideal_pre : Cert.quiescent_Kernel7Ideal_pre_finite7 := fun m ρ _ => Cert.Kernel7Ideal.Gen.frame m ρ

/-- The reference's frame under the precondition. -/
theorem frame_reference_pre : Cert.quiescent_Reference7Ideal_pre_finite7 := fun m ρ _ => frame_reference m ρ trivial

/-- The idealization is the kernel, with no operation replaced. -/
theorem preserves : Cert.preserves_Kernel7_Kernel7Ideal := trivial

/-- The precondition says that no entry of the branch's output is infinite. -/
theorem finite (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) (i : Cert.Kernel7Ideal.S1024x1024.Idx) :
    Cert.Heads.Finite (Cert.Kernel7Ideal.Tail.argY m c i) := by
  have e := congrFun (h c) i
  idx_vars i
  pointwise [Cert.Pre_finite7.fn] at e
  exact Cert.Heads.finite_of_abs e

/-- Over the extended reals the kernel's result is the reference's, from the same arguments. -/
theorem algebraic : Cert.algebraic_Kernel7Ideal_Reference7Ideal_pre_finite7 := by
  intro m ρ m' ρ' hpre hagree
  refine ⟨fun c => Cert.Reference7Ideal.Tail.resultOf m' c, ?_, Cert.Reference7Ideal.Tail.run m' ρ'⟩
  refine (θ_run Cert.Kernel7Ideal.defs _ _).mono (fun _ h c => ⟨(h c).1.trans ?_, (h c).2⟩) (Cert.Kernel7Ideal.Value.run_blocks (F := Ideal) m ρ)
  show _ = Cert.Reference7Ideal.Tail.resultOf m' c
  obtain ⟨h0, h1, h2, h3, h4, h5, h6, h7, h8, h9, h10⟩ := hagree c
  unfold Cert.Reference7Ideal.Tail.resultOf
  rw [Cert.Kernel7Ideal.Tail.final m c (finite m hpre c), h0, h1, h2, h3, h4, h5, h6, h7, h8, h9, h10]

end Cert.SampleNormTail.Claims

end
-- ==== Proof.StartRunIdeal.lean ====
/- The frame of the mixer's start (ideal program): what the body leaves in each of its nine output windows,
   as a function of its fifteen input blocks (`Blocks`), and the run of the whole program. The scratch row buffer is
   written at the first point only and read nowhere, so the body's triple asks of it that it is owned, and no more. -/
module

public import proofs.«01_k».proof.Proof.Gen.Kernel8Ideal.Frame.Runs
public import Idealize.ShloMosaic.Lib.Pipeline.FrameBody
public import Idealize.ShloMosaic.Lib.Claim
public import Idealize.ShloMosaic.Lib.Tactic

@[expose] public section

set_option maxRecDepth 16384

noncomputable section

namespace Cert.Kernel8Ideal.Start

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]
variable (m : (ℓ : Loc nD τ sig) → Buf (Elt F) ℓ) (ρ : Dev nD → PrngReg)

abbrev Asrt (F : FTy → Type) : Type := sProp (MT nD τ sig Unit (Elt F) ℕ (UR sig nD τ) ℕ)

/-! ## The accesses -/

abbrev rows : Rect S256x1024 := Rect.unit (s := S256x1024) ![0, 0] S256x1024.size inb_S256x1024_S256x1024_0_0
abbrev vec : Rect S1x1024 := Rect.unit (s := S1x1024) ![0, 0] S1x1024.size inb_S1x1024_S1x1024_0_0
abbrev down : Rect S1024x64 := Rect.unit (s := S1024x64) ![0, 0] S1024x64.size inb_S1024x64_S1024x64_0_0
abbrev up : Rect S64x1024 := Rect.unit (s := S64x1024) ![0, 0] S64x1024.size inb_S64x1024_S64x1024_0_0
abbrev heads : Rect S1024x1024 := Rect.unit (s := S1024x1024) ![0, 0] S1024x1024.size inb_S1024x1024_S1024x1024_0_0
abbrev mix0 : Rect S6x1024 := Rect.unit (s := S6x1024) ![0, 0] S1x1024.size inb_S6x1024_S1x1024_0_0
abbrev mix1 : Rect S6x1024 := Rect.unit (s := S6x1024) ![1, 0] S1x1024.size inb_S6x1024_S1x1024_1_0
abbrev mix2 : Rect S6x1024 := Rect.unit (s := S6x1024) ![2, 0] S1x1024.size inb_S6x1024_S1x1024_2_0
abbrev mix3 : Rect S6x1024 := Rect.unit (s := S6x1024) ![3, 0] S1x1024.size inb_S6x1024_S1x1024_3_0
abbrev mix4 : Rect S6x1024 := Rect.unit (s := S6x1024) ![4, 0] S1x1024.size inb_S6x1024_S1x1024_4_0
abbrev mix5 : Rect S6x1024 := Rect.unit (s := S6x1024) ![5, 0] S1x1024.size inb_S6x1024_S1x1024_5_0
abbrev mat0 : Rect S4x1024x1024 := Rect.unit (s := S4x1024x1024) ![0, 0, 0] S1x1024x1024.size inb_S4x1024x1024_S1x1024x1024_0_0_0
abbrev mat1 : Rect S4x1024x1024 := Rect.unit (s := S4x1024x1024) ![1, 0, 0] S1x1024x1024.size inb_S4x1024x1024_S1x1024x1024_1_0_0
abbrev mat2 : Rect S4x1024x1024 := Rect.unit (s := S4x1024x1024) ![2, 0, 0] S1x1024x1024.size inb_S4x1024x1024_S1x1024x1024_2_0_0
abbrev mat3 : Rect S4x1024x1024 := Rect.unit (s := S4x1024x1024) ![3, 0, 0] S1x1024x1024.size inb_S4x1024x1024_S1x1024x1024_3_0_0

/-! ## What the body leaves -/

/-- The blocks of the fifteen input windows. -/
structure Blocks (F : FTy → Type) where
  x0 : Vec F S256x1024 .f32
  x1 : Vec F S256x1024 .f32
  x2 : Vec F S1x1024 .f32
  x3 : Vec F S6x1024 .f32
  x4 : Vec F S4x1024x1024 .bf16
  x5 : Vec F S1x1024 .f32
  x6 : Vec F S1024x64 .bf16
  x7 : Vec F S64x1024 .bf16
  x8 : Vec F S1x1024 .f32
  x9 : Vec F S1024x64 .bf16
  x10 : Vec F S64x1024 .bf16
  x11 : Vec F S1x1024 .f32
  x12 : Vec F S1x1024 .f32
  x13 : Vec F S1x1024 .f32
  x14 : Vec F S1024x1024 .bf16

variable (b : Blocks F)

abbrev xn : FVec F S256x1024 .f32 := k0_pay3 (View.ld b.x0 rows) (View.ld b.x2 vec)
abbrev rolled : FVec F S256x1024 .f32 := k0_pay4 (View.ld b.x0 rows) (View.ld b.x2 vec)
abbrev shifted : Vec F S256x1024 .f32 := View.ld b.x1 rows
abbrev dx : FVec F S256x1024 .f32 := k0_pay6 (xn b) (rolled b) k0_pay5 (shifted b)
abbrev r : FVec F S256x1024 .f32 := k0_pay7 (xn b) (rolled b) k0_pay5 (shifted b) (View.ld b.x3 mix0) (View.ld b.x4 mat0)
abbrev k₀ : FVec F S256x1024 .f32 := k0_pay8 (xn b) (rolled b) k0_pay5 (shifted b) (View.ld b.x3 mix1) (View.ld b.x4 mat1)
abbrev v : FVec F S256x1024 .f32 := k0_pay9 (xn b) (rolled b) k0_pay5 (shifted b) (View.ld b.x3 mix2) (View.ld b.x4 mat2)
abbrev z : FVec F S256x1024 .f32 :=
  k0_pay11 (k0_pay10 (xn b) (rolled b) k0_pay5 (shifted b) (View.ld b.x3 mix3)) (View.ld b.x4 mat3)
abbrev lw : FVec F S256x1024 .f32 :=
  k0_pay12 (xn b) (dx b) (View.ld b.x5 vec) (View.ld b.x3 mix4) (View.ld b.x6 down) (View.ld b.x7 up)
abbrev a : FVec F S256x1024 .f32 :=
  k0_pay13 (xn b) (dx b) (View.ld b.x8 vec) (View.ld b.x3 mix5) (View.ld b.x9 down) (View.ld b.x10 up)
abbrev kkn : FVec F S256x1024 .f32 := k0_pay14 (k₀ b) (View.ld b.x11 vec) (View.ld b.x14 heads)
abbrev k : FVec F S256x1024 .f32 := k0_pay15 (k₀ b) (a b) (View.ld b.x12 vec)
abbrev bonus : FVec F S256x1024 .f32 :=
  k0_pay16 (r b) (k₀ b) (v b) (a b) (View.ld b.x12 vec) (View.ld b.x13 vec) (View.ld b.x14 heads)
abbrev gz : FVec F S256x1024 .f32 := k0_pay1 (z b) k0_pay17
abbrev xlast : FVec F S256x1024 .f32 := xn b

/-- A window's buffer after one store of all its rows. -/
def left (x : FVec F S256x1024 .f32) : Vec F S256x1024 .f32 := View.canon [⟨rows, x⟩]

theorem covered (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 2000000 in
/-- The body, from owned input blocks, owned output buffers and an owned scratch: the inputs as they were, each output
    buffer as listed above. At the first point the scratch is cleared, at the others it is not. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S1024x64 .bf16) (harg7 : arg7.IsWhole) (arg8 : Memref sig .tc .vmem S64x1024 .bf16) (harg8 : arg8.IsWhole) (arg9 : Memref sig .tc .vmem S1x1024 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S8x1024 .f32) (harg25 : arg25.IsWhole)
    (b : Blocks F) (K : PUnit → Asrt F) :
    iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare (left (r b)) ∗ owns (c : Thread nD τ) arg17 fullShare (left (lw b)) ∗ owns (c : Thread nD τ) arg18 fullShare (left (k b)) ∗ owns (c : Thread nD τ) arg19 fullShare (left (v b)) ∗ owns (c : Thread nD τ) arg20 fullShare (left (kkn b)) ∗ owns (c : Thread nD τ) arg21 fullShare (left (a b)) ∗ owns (c : Thread nD τ) arg22 fullShare (left (bonus b)) ∗ owns (c : Thread nD τ) arg23 fullShare (left (gz b)) ∗ owns (c : Thread nD τ) arg24 fullShare (left (xlast b)) ∗ (∃ d, owns (c : Thread nD τ) arg25 fullShare d)) -∗ K ⟨⟩))
      ⊢ wp frame (wpE (defs₀ (F := F)) Variants.none c none) E (cc0__rwkv_proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  obtain ⟨x0, x1, x2, x3, x4, x5, x6, x7, x8, x9, x10, x11, x12, x13, x14⟩ := b
  dsimp only
  simp only [cc0__rwkv_proj_kernel_eq_skeleton]; unfold cc0__rwkv_proj_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14
  by_cases hc0 : cond0_0 i
  all_goals
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists _; isplitr
      swap; · iexact H15
      ipureintro
      exact View.read_writes_eq_canon _ _ _ (covered _)
    isplitl [H16]
    · iexists _; isplitr
      swap; · iexact H16
      ipureintro
      exact View.read_writes_eq_canon _ _ _ (covered _)
    isplitl [H17]
    · iexists _; isplitr
      swap; · iexact H17
      ipureintro
      exact View.read_writes_eq_canon _ _ _ (covered _)
    isplitl [H18]
    · iexists _; isplitr
      swap; · iexact H18
      ipureintro
      exact View.read_writes_eq_canon _ _ _ (covered _)
    isplitl [H19]
    · iexists _; isplitr
      swap; · iexact H19
      ipureintro
      exact View.read_writes_eq_canon _ _ _ (covered _)
    isplitl [H20]
    · iexists _; isplitr
      swap; · iexact H20
      ipureintro
      exact View.read_writes_eq_canon _ _ _ (covered _)
    isplitl [H21]
    · iexists _; isplitr
      swap; · iexact H21
      ipureintro
      exact View.read_writes_eq_canon _ _ _ (covered _)
    isplitl [H22]
    · iexists _; isplitr
      swap; · iexact H22
      ipureintro
      exact View.read_writes_eq_canon _ _ _ (covered _)
    isplitl [H23]
    · iexists _; isplitr
      swap; · iexact H23
      ipureintro
      exact View.read_writes_eq_canon _ _ _ (covered _)
    iexists _; iexists _; isplitr
    swap; · iexact H24
    ipureintro; rfl

/-! ## The pipeline's proof data -/

/-- The input blocks of point `t`. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The arrays as the region finds them; after the body each input's buffer at its block, each output's as `left`
    there; the invariant owns the scratch and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => left (r (blocks m c t))
    | ⟨16, _⟩ => left (lw (blocks m c t))
    | ⟨17, _⟩ => left (k (blocks m c t))
    | ⟨18, _⟩ => left (v (blocks m c t))
    | ⟨19, _⟩ => left (kkn (blocks m c t))
    | ⟨20, _⟩ => left (a (blocks m c t))
    | ⟨21, _⟩ => left (bonus (blocks m c t))
    | ⟨22, _⟩ => left (gz (blocks m c t))
    | ⟨23, _⟩ => left (xlast (blocks m c t))
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = left (r (blocks m c t)) := by
  dsimp only [dats]
theorem after16 (c : Dev nD) (t : Fin cfg0.N) : (dats m 0 c).after 16 t = left (lw (blocks m c t)) := by
  dsimp only [dats]
theorem after17 (c : Dev nD) (t : Fin cfg0.N) : (dats m 0 c).after 17 t = left (k (blocks m c t)) := by
  dsimp only [dats]
theorem after18 (c : Dev nD) (t : Fin cfg0.N) : (dats m 0 c).after 18 t = left (v (blocks m c t)) := by
  dsimp only [dats]
theorem after19 (c : Dev nD) (t : Fin cfg0.N) : (dats m 0 c).after 19 t = left (kkn (blocks m c t)) := by
  dsimp only [dats]
theorem after20 (c : Dev nD) (t : Fin cfg0.N) : (dats m 0 c).after 20 t = left (a (blocks m c t)) := by
  dsimp only [dats]
theorem after21 (c : Dev nD) (t : Fin cfg0.N) : (dats m 0 c).after 21 t = left (bonus (blocks m c t)) := by
  dsimp only [dats]
theorem after22 (c : Dev nD) (t : Fin cfg0.N) : (dats m 0 c).after 22 t = left (gz (blocks m c t)) := by
  dsimp only [dats]
theorem after23 (c : Dev nD) (t : Fin cfg0.N) : (dats m 0 c).after 23 t = left (xlast (blocks m c t)) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-! ## The body obligation -/

/-- What the body is called with at point `t`, the windows one by one. -/
def bodyPre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- What it returns. -/
def bodyPost (c : Dev nD) (t : Fin cfg0.N) : Asrt F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq,
    after0, after1, after2, after3, after4, after5, after6, after7, after8, after9, after10, after11, after12, after13, after14, after15, after16, after17, after18, after19, after20, after21, after22, after23]
  iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (blocks m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [Hs]; · iexact Hs
  iintro ⟨H0, H1, H2, H3, H4, H5, H6, H7, H8, H9, H10, H11, H12, H13, H14, H15, H16, H17, H18, H19, H20, H21, H22, H23, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every final state has every array of the pipeline at what the proof data computes, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel8Ideal.Start

end
-- ==== Proof.StartMath.lean ====
/-
  The start of the mixer, row by row: the row before a row, a row moved towards it, and a decay from its score.
-/
module

public import proofs.«01_k».proof.Proof.Rows
public import proofs.«01_k».proof.Proof.RefRead

@[expose] public section

noncomputable section

open Idealize.ShloMosaic

namespace Cert.Start

open Cert.Rows

/-- The row before a row: within a slot the row above, at a slot's first position the slot's kept row. -/
def prev (X : Fin 1024 → Fin 1024 → EReal) (S : Fin 128 → Fin 1024 → EReal) (r d : Fin 1024) : EReal :=
  if r.val % 8 = 0 then S ⟨r.val / 8, by omega⟩ d else X ⟨r.val - 1, by omega⟩ d

/-- A row moved towards the row before it. -/
def mixed (X : Fin 1024 → Fin 1024 → EReal) (S : Fin 128 → Fin 1024 → EReal) (μ : Fin 1024 → EReal) (r d : Fin 1024) : EReal :=
  X r d + (prev X S r d - X r d) * μ d

/-- The logarithm of a decay, from its score. -/
def decay (x : EReal) : EReal := -Ideal.exp (-Cert.ReferenceIdeal.Attn.spe (-x) - Ideal.ofBits .f32 0x3F000000#32)

end Cert.Start

end
-- ==== Proof.StartRead.lean ====
/-
  The start of the mixer, the kernel's way: what each of the seven claimed blocks holds at a row and a column.
-/
module

public import proofs.«01_k».proof.Proof.StartRunIdeal
public import proofs.«01_k».proof.Proof.StartMath
public import proofs.«01_k».proof.Proof.ProjRead

@[expose] public section

set_option maxRecDepth 16384

noncomputable section

open Idealize.ShloMosaic Idealize.ShloMosaic.TcCoe Idealize.SL.Sem

namespace Cert.Kernel8Ideal.Start

open Cert.Kernel8Ideal Cert.Kernel8Ideal.Gen Cert.Rows Cert.Start
open Cert.Kernel3Ideal.Proj (hz2)

section
variable (b : Blocks Ideal) (i : Fin 256) (d : Fin 1024)

theorem ld_rows (x : Vec Ideal S256x1024 .f32) : View.ld x rows = x := View.ld_unit_zero (S := S256x1024) hz2 _ _
theorem ld_vec (x : Vec Ideal S1x1024 .f32) : View.ld x vec = x := View.ld_unit_zero (S := S1x1024) hz2 _ _
theorem ld_down (x : Vec Ideal S1024x64 .bf16) : View.ld x down = x := View.ld_unit_zero (S := S1024x64) hz2 _ _
theorem ld_up (x : Vec Ideal S64x1024 .bf16) : View.ld x up = x := View.ld_unit_zero (S := S64x1024) hz2 _ _
theorem left_eq (x : FVec Ideal S256x1024 .f32) : left x = x := by
  unfold left
  exact View.canon_unit_zero (S := S256x1024) hz2 _ _

/-- A normed row. -/
theorem xn_at : xn b (ix2 i d) = nrm (fun j => b.x0 (ix2 i j)) (b.x2 (ix2 0 d)) d := by
  rw [xn, ld_rows, ld_vec]
  pointwise [k0_pay3]
  rfl

/-- The rows that begin a slot. -/
theorem mask_at : k0_pay5 (ix2 i 0) = if i.val % 8 = 0 then 1#1 else 0#1 := by
  pointwise [k0_pay5]
  revert i
  decide +kernel

/-- The difference of the row before and a row. -/
theorem dx_at : dx b (ix2 i d) = (if i.val % 8 = 0 then b.x1 (ix2 i d) else xn b (ix2 ⟨i.val - 1, by omega⟩ d)) - xn b (ix2 i d) := by
  rw [dx, shifted, ld_rows]
  generalize hx : xn b = x
  rw [rolled, k0_pay4]
  rw [xn] at hx
  rw [hx]
  pointwise [k0_pay6]
  rw [mask_at]
  by_cases h : i.val % 8 = 0
  · rw [if_pos h, if_pos h]
    rfl
  · rw [if_neg h, if_neg h]
    have e : (⟨(i.val + 256 - 1) % 256, by omega⟩ : Fin 256) = ⟨i.val - 1, by omega⟩ := Fin.ext (by dsimp only; omega)
    rw [e]
    rfl

/-- A row moved towards the row before it, by one of the six mixtures. -/
def toward (n : Fin 6) (j : Fin 1024) : EReal := xn b (ix2 i j) + dx b (ix2 i j) * b.x3 (ix2 n j)

/-- With the block's rows placed in the array of all rows, the same in the array's terms. -/
theorem toward_of (X : Fin 1024 → Fin 1024 → EReal) (S : Fin 128 → Fin 1024 → EReal) (q : Fin 256 → Fin 1024) (o : ℕ) (ho : o % 8 = 0)
    (hq : ∀ i, (q i).val = o + i.val) (hx : ∀ i d, xn b (ix2 i d) = X (q i) d)
    (hs : ∀ i d, (q i).val % 8 = 0 → b.x1 (ix2 i d) = S ⟨(q i).val / 8, by omega⟩ d)
    (n : Fin 6) (μ : Fin 1024 → EReal) (hμ : ∀ d, b.x3 (ix2 n d) = μ d) : toward b i n d = mixed X S μ (q i) d := by
  have hi := hq i
  rw [toward, mixed, dx_at, hx, hμ, prev]
  by_cases h : i.val % 8 = 0
  · rw [if_pos h, if_pos (by omega), hs i d (by omega)]
  · have e : q ⟨i.val - 1, by omega⟩ = ⟨(q i).val - 1, by omega⟩ := Fin.ext (by rw [hq]; dsimp only; omega)
    rw [if_neg h, if_neg (by omega), hx, e]

theorem r_at : r b (ix2 i d) = ∑ j, toward b i 0 j * b.x4 (ix3 0 j d) := by
  rw [r]
  generalize hx : xn b = x
  pointwise [k0_pay7]
  subst hx
  rfl

theorem k₀_at : k₀ b (ix2 i d) = ∑ j, toward b i 1 j * b.x4 (ix3 1 j d) := by
  rw [k₀]
  generalize hx : xn b = x
  pointwise [k0_pay8]
  subst hx
  rfl

theorem v_at : v b (ix2 i d) = ∑ j, toward b i 2 j * b.x4 (ix3 2 j d) := by
  rw [v]
  generalize hx : xn b = x
  pointwise [k0_pay9]
  subst hx
  rfl

theorem z_at : z b (ix2 i d) = ∑ j, toward b i 3 j * b.x4 (ix3 3 j d) := by
  rw [z]
  generalize hx : xn b = x
  pointwise [k0_pay10, k0_pay11]
  subst hx
  rfl

theorem gz_at : gz b (ix2 i d) = z b (ix2 i d) * sgm (z b (ix2 i d)) := by
  rw [gz]
  generalize z b = u
  pointwise [k0_pay1, k0_pay17]
  rw [zero_sub]
  rfl

theorem lw_at : lw b (ix2 i d) = decay (b.x5 (ix2 0 d) + ∑ e, Ideal.tanh (∑ j, toward b i 4 j * b.x6 (ix2 j e)) * b.x7 (ix2 e d)) := by
  rw [lw, ld_vec, ld_down, ld_up]
  unfold toward
  generalize xn b = x
  generalize dx b = y
  pointwise [k0_pay12]
  simp only [zero_sub]
  rfl

theorem a_at : a b (ix2 i d) = sgm (b.x8 (ix2 0 d) + ∑ e, (∑ j, toward b i 5 j * b.x9 (ix2 j e)) * b.x10 (ix2 e d)) := by
  rw [a, ld_vec, ld_down, ld_up]
  unfold toward
  generalize xn b = x
  generalize dx b = y
  pointwise [k0_pay13]
  simp only [zero_sub]
  rfl

theorem k_at : k b (ix2 i d) = k₀ b (ix2 i d) * (1 + (a b (ix2 i d) - 1) * b.x12 (ix2 0 d)) := by
  rw [k, ld_vec]
  generalize k₀ b = x
  generalize a b = y
  pointwise [k0_pay15]

end

end Cert.Kernel8Ideal.Start

end
-- ==== Proof.StartStaged.lean ====
/-
  The start of the mixer, the kernel's way: what is staged of each argument.
-/
module

public import proofs.«01_k».proof.Proof.StartRead
public import Idealize.ShloMosaic.Lib.StableHlo.RunRead

@[expose] public section

set_option maxRecDepth 16384

noncomputable section

open Idealize.ShloMosaic Idealize.ShloMosaic.TcCoe Idealize.SL.Sem

namespace Cert.Kernel8Ideal.Start

open Cert.Kernel8Ideal Cert.Kernel8Ideal.Gen Cert.Rows Cert.Start

/-- The block indices of every window at a grid point: a block of rows, and the whole of each weight. -/
theorem idx : ∀ t : Fin cfg0.N,
    win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_12.index t = ![0, 0]
    ∧ win0_15.index t = ![t.val, 0] ∧ win0_16.index t = ![t.val, 0] ∧ win0_17.index t = ![t.val, 0]
    ∧ win0_18.index t = ![t.val, 0] ∧ win0_20.index t = ![t.val, 0] ∧ win0_22.index t = ![t.val, 0] ∧ win0_23.index t = ![t.val, 0] :=
  (by decide +kernel : ∀ t : Fin grid0.N, _)

theorem lt4 (t : Fin cfg0.N) : t.val < 4 := t.isLt

variable (m : (ℓ : Loc nD τ sig) → Buf (Elt Ideal) ℓ) (c : Dev nD) (t : Fin cfg0.N)

/-! ## The arguments at launch -/

abbrev argH : FVec Ideal S1024x1024 .f32 := m ((c.tc : Thread nD τ).loc main_arg0)
abbrev argS : FVec Ideal S128x1024 .f32 := m ((c.tc : Thread nD τ).loc main_arg1)
abbrev argG : FVec Ideal S1024 .f32 := m ((c.tc : Thread nD τ).loc main_arg2)
abbrev argMix : FVec Ideal S6x1024 .f32 := m ((c.tc : Thread nD τ).loc main_arg3)
abbrev argW : FVec Ideal S4x1024x1024 .f32 := m ((c.tc : Thread nD τ).loc main_arg4)
abbrev argW0 : FVec Ideal S1024 .f32 := m ((c.tc : Thread nD τ).loc main_arg5)
abbrev argW1 : FVec Ideal S1024x64 .f32 := m ((c.tc : Thread nD τ).loc main_arg6)
abbrev argW2 : FVec Ideal S64x1024 .f32 := m ((c.tc : Thread nD τ).loc main_arg7)
abbrev argA0 : FVec Ideal S1024 .f32 := m ((c.tc : Thread nD τ).loc main_arg8)
abbrev argA1 : FVec Ideal S1024x64 .f32 := m ((c.tc : Thread nD τ).loc main_arg9)
abbrev argA2 : FVec Ideal S64x1024 .f32 := m ((c.tc : Thread nD τ).loc main_arg10)
abbrev argKa : FVec Ideal S1024 .f32 := m ((c.tc : Thread nD τ).loc main_arg12)

/-- A row of a block of rows, as a row of the array. -/
abbrev rowOf (i : Fin 256) : Fin 1024 := ⟨256 * t.val + i.val, by have := lt4 t; omega⟩

/-! ## What is staged of each -/

theorem h_read (i : Fin 256) (d : Fin 1024) : (iblk m c 0 t : Vec Ideal S256x1024 .f32) (ix2 i d) = argH m c (ix2 (rowOf t i) d) := by
  blk_ext [iblk, V, idx t]

theorem mix_read (i : Fin 6) (d : Fin 1024) : (iblk m c 3 t : Vec Ideal S6x1024 .f32) (ix2 i d) = argMix m c (ix2 i d) := by
  blk_ext [iblk, V, idx t]

/-- The kept rows, each the first of eight: the rest of the eight is nowhere read. -/
def spread (s : FVec Ideal S128x1024 .f32) : FVec Ideal S1024x1024 .f32 :=
  shapeCast _ (pad S128x8x1024 ![0, 0, 0] ![0, 7, 0] ![0, 0, 0] (broadcastInDim S128x1x1024 ![0, 2] bcast_S128x1024_S128x1x1024_0_2 s) (sitofp .f32 (constantI S_ 32 0#32)) pads_S128x1x1024_S128x8x1024_000_070_000 h_S_) shapeCasts_S128x8x1024_S1024x1024

theorem spread_at (s : FVec Ideal S128x1024 .f32) (r d : Fin 1024) (h : r.val % 8 = 0) : spread s (ix2 r d) = s (ix2 ⟨r.val / 8, by omega⟩ d) := by
  pointwise [spread]
  exact dif_pos ⟨by omega, by omega⟩

theorem V_spread : V m c main_v2 = spread (argS m c) := by
  after_reads_simp
  rfl

theorem shift_read (i : Fin 256) (d : Fin 1024) : (iblk m c 1 t : Vec Ideal S256x1024 .f32) (ix2 i d) = spread (argS m c) (ix2 (rowOf t i) d) := by
  rw [← V_spread m c]
  blk_simp [iblk, idx t]
  blk_ext [idx t]

set_option maxHeartbeats 1000000 in
theorem gain_read (d : Fin 1024) : (iblk m c 2 t : Vec Ideal S1x1024 .f32) (ix2 0 d) = argG m c (ix1 d) := by
  blk_simp [iblk, idx t]
  after_reads_simp
  pointwise []
  blk_ext [idx t]

set_option maxHeartbeats 1000000 in
theorem decay₀_read (d : Fin 1024) : (iblk m c 5 t : Vec Ideal S1x1024 .f32) (ix2 0 d) = argW0 m c (ix1 d) := by
  blk_simp [iblk, idx t]
  after_reads_simp
  pointwise []
  blk_ext [idx t]

set_option maxHeartbeats 1000000 in
theorem rate₀_read (d : Fin 1024) : (iblk m c 8 t : Vec Ideal S1x1024 .f32) (ix2 0 d) = argA0 m c (ix1 d) := by
  blk_simp [iblk, idx t]
  after_reads_simp
  pointwise []
  blk_ext [idx t]

set_option maxHeartbeats 1000000 in
theorem weight_read (d : Fin 1024) : (iblk m c 12 t : Vec Ideal S1x1024 .f32) (ix2 0 d) = argKa m c (ix1 d) := by
  blk_simp [iblk, idx t]
  after_reads_simp
  pointwise []
  blk_ext [idx t]

theorem mat_read (i : Fin 4) (j k : Fin 1024) : (iblk m c 4 t : Vec Ideal S4x1024x1024 .bf16) (ix3 i j k) = argW m c (ix3 i j k) := by
  blk_simp [iblk, idx t]
  after_reads_simp
  pointwise []
  blk_ext [idx t]

theorem down_read (j : Fin 1024) (e : Fin 64) :
    (iblk m c 6 t : Vec Ideal S1024x64 .bf16) (ix2 j e) = argW1 m c (ix2 j e)
    ∧ (iblk m c 9 t : Vec Ideal S1024x64 .bf16) (ix2 j e) = argA1 m c (ix2 j e) := by
  refine ⟨?_, ?_⟩ <;> (blk_simp [iblk, idx t]; after_reads_simp; pointwise []; blk_ext [idx t])

theorem up_read (e : Fin 64) (d : Fin 1024) :
    (iblk m c 7 t : Vec Ideal S64x1024 .bf16) (ix2 e d) = argW2 m c (ix2 e d)
    ∧ (iblk m c 10 t : Vec Ideal S64x1024 .bf16) (ix2 e d) = argA2 m c (ix2 e d) := by
  refine ⟨?_, ?_⟩ <;> (blk_simp [iblk, idx t]; after_reads_simp; pointwise []; blk_ext [idx t])

end Cert.Kernel8Ideal.Start

end
-- ==== Proof.StartRef.lean ====
/-
  The start of the mixer, the reference's way: its arrays as functions of the arguments, each read at a row and a column.
  A row is a slot's position: slot `r / 8`, position `r % 8`.
-/
module

public import proofs.«01_k».proof.Proof.StartMath
public import proofs.«01_k».proof.Proof.SampleProj
public import proofs.«01_k».proof.Proof.Gen.Reference8Ideal
public import proofs.«01_k».proof.Proof.Gen.Reference8Ideal.Run

@[expose] public section

set_option maxRecDepth 16384

noncomputable section

open Idealize.ShloMosaic Idealize.ShloMosaic.TcCoe Idealize.SL.Sem

namespace Cert.Reference8Ideal.Start

open Cert.Reference8Ideal Cert.Reference8Ideal.Gen Cert.Rows Cert.Start

section
variable (x : FVec Ideal S1024x1024 .f32) (s : FVec Ideal S128x1024 .f32) (g : FVec Ideal S1024 .f32) (mix : FVec Ideal S6x1024 .f32)

/-- The normed rows, by slot and position. -/
def slots : FVec Ideal S128x8x1024 .f32 := shapeCast _ (Cert.Reference6Ideal.Proj.normed x g) shapeCasts_S1024x1024_S128x8x1024

variable (y : FVec Ideal S128x8x1024 .f32)

/-- The rows before. -/
def before : FVec Ideal S128x8x1024 .f32 :=
  concatenate S128x8x1024 1 [⟨S128x1x1024, (broadcastInDim S128x1x1024 ![0, 2] bcast_S128x1024_S128x1x1024_0_2 s)⟩, ⟨S128x7x1024, (extractStridedSlice S128x7x1024 ![0, 0, 0] y slices_S128x8x1024_S128x7x1024_0_0_0)⟩] concatenates_S128x1x1024_S128x7x1024_S128x8x1024_d1

/-- The six mixtures of the rows with the rows before. -/
def mixes : FVec Ideal S6x128x8x1024 .f32 :=
  addf (broadcastInDim S6x128x8x1024 ![0, 1, 2, 3] bcast_S1x128x8x1024_S6x128x8x1024_0_1_2_3 (broadcastInDim S1x128x8x1024 ![1, 2, 3] bcast_S128x8x1024_S1x128x8x1024_1_2_3 y))
    (mulf (broadcastInDim S6x128x8x1024 ![0, 1, 2, 3] bcast_S1x128x8x1024_S6x128x8x1024_0_1_2_3 (broadcastInDim S1x128x8x1024 ![1, 2, 3] bcast_S128x8x1024_S1x128x8x1024_1_2_3 (subf (before s y) y)))
      (broadcastInDim S6x128x8x1024 ![0, 1, 2, 3] bcast_S6x1x1x1024_S6x128x8x1024_0_1_2_3 (broadcastInDim S6x1x1x1024 ![0, 3] bcast_S6x1024_S6x1x1x1024_0_3 mix)))

variable (u : FVec Ideal S6x128x8x1024 .f32) (w : FVec Ideal S4x1024x1024 .f32)

/-- The first four mixtures, each against its matrix. -/
def prods : FVec Ideal S4x128x8x1024 .f32 :=
  Host.dotGeneral dot_S4x128x8x1024_S4x1024x1024_S4x128x8x1024_3_1_12_2_0_0 none (extractStridedSlice S4x128x8x1024 ![0, 0, 0, 0] u slices_S6x128x8x1024_S4x128x8x1024_0_0_0_0) w

variable (p : FVec Ideal S4x128x8x1024 .f32)

def part0 : FVec Ideal S128x8x1024 .f32 := shapeCast _ (extractStridedSlice S1x128x8x1024 ![0, 0, 0, 0] p slices_S4x128x8x1024_S1x128x8x1024_0_0_0_0) shapeCasts_S1x128x8x1024_S128x8x1024
def part1 : FVec Ideal S128x8x1024 .f32 := shapeCast _ (extractStridedSlice S1x128x8x1024 ![1, 0, 0, 0] p slices_S4x128x8x1024_S1x128x8x1024_1_0_0_0) shapeCasts_S1x128x8x1024_S128x8x1024
def part2 : FVec Ideal S128x8x1024 .f32 := shapeCast _ (extractStridedSlice S1x128x8x1024 ![2, 0, 0, 0] p slices_S4x128x8x1024_S1x128x8x1024_2_0_0_0) shapeCasts_S1x128x8x1024_S128x8x1024
def part3 : FVec Ideal S128x8x1024 .f32 := shapeCast _ (extractStridedSlice S1x128x8x1024 ![3, 0, 0, 0] p slices_S4x128x8x1024_S1x128x8x1024_3_0_0_0) shapeCasts_S1x128x8x1024_S128x8x1024
def mix4 : FVec Ideal S128x8x1024 .f32 := shapeCast _ (extractStridedSlice S1x128x8x1024 ![4, 0, 0, 0] u slices_S6x128x8x1024_S1x128x8x1024_4_0_0_0) shapeCasts_S1x128x8x1024_S128x8x1024
def mix5 : FVec Ideal S128x8x1024 .f32 := shapeCast _ (extractStridedSlice S1x128x8x1024 ![5, 0, 0, 0] u slices_S6x128x8x1024_S1x128x8x1024_5_0_0_0) shapeCasts_S1x128x8x1024_S128x8x1024

variable (b : FVec Ideal S1024 .f32) (lo : FVec Ideal S1024x64 .f32) (hi : FVec Ideal S64x1024 .f32) (q : FVec Ideal S128x8x1024 .f32)

abbrev const3 (n : BitVec 32) : FVec Ideal S128x8x1024 .f32 := broadcastInDim S128x8x1024 ![] bcast_S_S128x8x1024 (constant S_ .f32 n)
abbrev row3 : FVec Ideal S128x8x1024 .f32 := broadcastInDim S128x8x1024 ![0, 1, 2] bcast_S1x1x1024_S128x8x1024_0_1_2 (broadcastInDim S1x1x1024 ![2] bcast_S1024_S1x1x1024_2 b)
abbrev sig3 : FVec Ideal S128x8x1024 .f32 := Host.divf (const3 0x3F800000#32) (addf (const3 0x3F800000#32) (Host.exp (Host.negf q)))

/-- The decays' scores. -/
def scoreW : FVec Ideal S128x8x1024 .f32 :=
  addf (row3 b) (Host.dotGeneral dot_S128x8x64_S64x1024_S128x8x1024_2_0_01_1_n_n none (Host.tanh (Host.dotGeneral dot_S128x8x1024_S1024x64_S128x8x64_2_0_01_1_n_n none (mix4 u) lo)) hi)

/-- The rates' scores. -/
def scoreA : FVec Ideal S128x8x1024 .f32 :=
  addf (row3 b) (Host.dotGeneral dot_S128x8x64_S64x1024_S128x8x1024_2_0_01_1_n_n none (Host.dotGeneral dot_S128x8x1024_S1024x64_S128x8x64_2_0_01_1_n_n none (mix5 u) lo) hi)

/-- The logarithms of the decays, from their scores. -/
def decays : FVec Ideal S128x8x1024 .f32 :=
  Host.negf (Host.exp (subf (Host.negf (select (cmpf .une (subf (Host.negf q) (const3 0x00000000#32)) (subf (Host.negf q) (const3 0x00000000#32))) (addf (Host.negf q) (const3 0x00000000#32)) (addf (maximumf (Host.negf q) (const3 0x00000000#32)) (Host.log1p (Host.exp (Host.negf (Host.absf (subf (Host.negf q) (const3 0x00000000#32))))))))) (const3 0x3F000000#32)))

variable (a : FVec Ideal S128x8x1024 .f32)

/-- The keys, weighed by the rates. -/
def weighed : FVec Ideal S128x8x1024 .f32 := mulf q (addf (const3 0x3F800000#32) (mulf (subf a (const3 0x3F800000#32)) (row3 b)))

/-- The gates. -/
def gates : FVec Ideal S128x8x1024 .f32 := mulf q (sig3 q)

/-- Slots and positions as rows. -/
def flat : FVec Ideal S1024x1024 .f32 := shapeCast _ q shapeCasts_S128x8x1024_S1024x1024

variable (n : Fin 128) (t : Fin 8) (d : Fin 1024) (r : Fin 1024)

theorem flat_at : flat q (ix2 r d) = q (ix3 ⟨r.val / 8, by omega⟩ ⟨r.val % 8, by omega⟩ d) := by
  pointwise [flat]

theorem slots_at : slots x g (ix3 n t d) = nrm (fun j => x (ix2 ⟨n.val * 8 + t.val, by omega⟩ j)) (g (ix1 d)) d := by
  pointwise [slots]
  rw [Cert.Reference6Ideal.Proj.normed_at]

theorem before_at : before s y (ix3 n t d) = if h : t.val < 1 then s (ix2 n d) else y (ix3 n ⟨t.val - 1, by omega⟩ d) := by
  pointwise [before]

theorem mixes_at (i : Fin 6) : mixes s mix y (ix4 i n t d) = y (ix3 n t d) + (before s y (ix3 n t d) - y (ix3 n t d)) * mix (ix2 i d) := by
  pointwise [mixes]

theorem prods_at (i : Fin 4) : prods u w (ix4 i n t d) = ∑ j, u (ix4 ⟨i.val, by omega⟩ n t j) * w (ix3 i j d) := by
  pointwise [prods]

theorem part0_at : part0 p (ix3 n t d) = p (ix4 0 n t d) := by pointwise [part0]
theorem part1_at : part1 p (ix3 n t d) = p (ix4 1 n t d) := by pointwise [part1]
theorem part2_at : part2 p (ix3 n t d) = p (ix4 2 n t d) := by pointwise [part2]
theorem part3_at : part3 p (ix3 n t d) = p (ix4 3 n t d) := by pointwise [part3]

theorem scoreW_at : scoreW u b lo hi (ix3 n t d) = b (ix1 d) + ∑ e, Ideal.tanh (∑ j, u (ix4 4 n t j) * lo (ix2 j e)) * hi (ix2 e d) := by
  pointwise [scoreW, mix4]

theorem scoreA_at : scoreA u b lo hi (ix3 n t d) = b (ix1 d) + ∑ e, (∑ j, u (ix4 5 n t j) * lo (ix2 j e)) * hi (ix2 e d) := by
  pointwise [scoreA, mix5]

theorem decays_at : decays q (ix3 n t d) = decay (q (ix3 n t d)) := by
  pointwise [decays]
  rw [if_neg (not_not.2 rfl)]
  rfl

theorem sig3_at : sig3 q (ix3 n t d) = sgm (q (ix3 n t d)) := by
  pointwise []
  rfl

theorem weighed_at : weighed b q a (ix3 n t d) = q (ix3 n t d) * (1 + (a (ix3 n t d) - 1) * b (ix1 d)) := by
  pointwise [weighed]

theorem gates_at : gates q (ix3 n t d) = q (ix3 n t d) * sgm (q (ix3 n t d)) := by
  pointwise [gates]
  rfl

end

/-! ## The seven results -/

section
variable (x : FVec Ideal S1024x1024 .f32) (s : FVec Ideal S128x1024 .f32) (g : FVec Ideal S1024 .f32) (mix : FVec Ideal S6x1024 .f32)
  (w : FVec Ideal S4x1024x1024 .f32) (w0 : FVec Ideal S1024 .f32) (w1 : FVec Ideal S1024x64 .f32) (w2 : FVec Ideal S64x1024 .f32)
  (a0 : FVec Ideal S1024 .f32) (a1 : FVec Ideal S1024x64 .f32) (a2 : FVec Ideal S64x1024 .f32) (ka : FVec Ideal S1024 .f32)
  (r d : Fin 1024)

abbrev mixesOf : FVec Ideal S6x128x8x1024 .f32 := mixes s mix (slots x g)
abbrev prodsOf : FVec Ideal S4x128x8x1024 .f32 := prods (mixesOf x s g mix) w
abbrev ratesOf : FVec Ideal S128x8x1024 .f32 := sig3 (scoreA (mixesOf x s g mix) a0 a1 a2)

def resR : FVec Ideal S1024x1024 .f32 := flat (part0 (prodsOf x s g mix w))
def resW : FVec Ideal S1024x1024 .f32 := flat (decays (scoreW (mixesOf x s g mix) w0 w1 w2))
def resK : FVec Ideal S1024x1024 .f32 := flat (weighed ka (part1 (prodsOf x s g mix w)) (ratesOf x s g mix a0 a1 a2))
def resV : FVec Ideal S1024x1024 .f32 := flat (part2 (prodsOf x s g mix w))
def resA : FVec Ideal S1024x1024 .f32 := flat (ratesOf x s g mix a0 a1 a2)
def resZ : FVec Ideal S1024x1024 .f32 := flat (gates (part3 (prodsOf x s g mix w)))
def resX : FVec Ideal S1024x1024 .f32 := flat (slots x g)

/-- The normed rows. -/
def rowsOf (r d : Fin 1024) : EReal := nrm (fun j => x (ix2 r j)) (g (ix1 d)) d

/-- A normed row, moved by one of the six mixtures. -/
def moved (i : Fin 6) (r d : Fin 1024) : EReal := mixed (rowsOf x g) (fun n e => s (ix2 n e)) (fun e => mix (ix2 i e)) r d

theorem resX_at : resX x g (ix2 r d) = rowsOf x g r d := by
  rw [resX, flat_at, slots_at, rowsOf]
  have e : (⟨r.val / 8 * 8 + r.val % 8, by omega⟩ : Fin 1024) = r := Fin.ext (by dsimp only; omega)
  rw [e]

theorem mixes_moved (i : Fin 6) : mixesOf x s g mix (ix4 i ⟨r.val / 8, by omega⟩ ⟨r.val % 8, by omega⟩ d) = moved x s g mix i r d := by
  rw [mixesOf, mixes_at, before_at, moved, mixed, prev]
  have e : ∀ r' : Fin 1024, ∀ n : Fin 128, ∀ t : Fin 8, n.val * 8 + t.val = r'.val → slots x g (ix3 n t d) = rowsOf x g r' d := by
    intro r' n t h
    rw [slots_at, rowsOf]
    have e : (⟨n.val * 8 + t.val, by omega⟩ : Fin 1024) = r' := Fin.ext h
    rw [e]
  rw [e r _ _ (by dsimp only; omega)]
  by_cases h : r.val % 8 = 0
  · rw [if_pos h, dif_pos (by dsimp only; omega)]
  · rw [if_neg h, dif_neg (by dsimp only; omega), e ⟨r.val - 1, by omega⟩ _ _ (by dsimp only; omega)]

theorem resR_at : resR x s g mix w (ix2 r d) = ∑ j, moved x s g mix 0 r j * w (ix3 0 j d) := by
  rw [resR, flat_at, part0_at, prodsOf, prods_at]
  exact Finset.sum_congr rfl fun j _ => congrArg (· * _) (mixes_moved x s g mix r j 0)

theorem resV_at : resV x s g mix w (ix2 r d) = ∑ j, moved x s g mix 2 r j * w (ix3 2 j d) := by
  rw [resV, flat_at, part2_at, prodsOf, prods_at]
  exact Finset.sum_congr rfl fun j _ => congrArg (· * _) (mixes_moved x s g mix r j 2)

theorem resZ_at : resZ x s g mix w (ix2 r d)
    = (∑ j, moved x s g mix 3 r j * w (ix3 3 j d)) * sgm (∑ j, moved x s g mix 3 r j * w (ix3 3 j d)) := by
  have e : part3 (prodsOf x s g mix w) (ix3 ⟨r.val / 8, by omega⟩ ⟨r.val % 8, by omega⟩ d) = ∑ j, moved x s g mix 3 r j * w (ix3 3 j d) := by
    rw [part3_at, prodsOf, prods_at]
    exact Finset.sum_congr rfl fun j _ => congrArg (· * _) (mixes_moved x s g mix r j 3)
  rw [resZ, flat_at, gates_at, e]

theorem resW_at : resW x s g mix w0 w1 w2 (ix2 r d)
    = decay (w0 (ix1 d) + ∑ e, Ideal.tanh (∑ j, moved x s g mix 4 r j * w1 (ix2 j e)) * w2 (ix2 e d)) := by
  rw [resW, flat_at, decays_at, scoreW_at]
  simp only [mixes_moved]

theorem resA_at : resA x s g mix a0 a1 a2 (ix2 r d)
    = sgm (a0 (ix1 d) + ∑ e, (∑ j, moved x s g mix 5 r j * a1 (ix2 j e)) * a2 (ix2 e d)) := by
  rw [resA, flat_at, ratesOf, sig3_at, scoreA_at]
  simp only [mixes_moved]

theorem resK_at : resK x s g mix w a0 a1 a2 ka (ix2 r d)
    = (∑ j, moved x s g mix 1 r j * w (ix3 1 j d)) * (1 + (resA x s g mix a0 a1 a2 (ix2 r d) - 1) * ka (ix1 d)) := by
  have e : part1 (prodsOf x s g mix w) (ix3 ⟨r.val / 8, by omega⟩ ⟨r.val % 8, by omega⟩ d) = ∑ j, moved x s g mix 1 r j * w (ix3 1 j d) := by
    rw [part1_at, prodsOf, prods_at]
    exact Finset.sum_congr rfl fun j _ => congrArg (· * _) (mixes_moved x s g mix r j 1)
  rw [resK, flat_at, weighed_at, e, resA, flat_at]

end

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let A := fun b : Ref sig .tc => m ((c.tc : Thread nD τ).loc b)
      r.2.mem ((c.tc : Thread nD τ).loc main_v70) = resR (A main_arg0) (A main_arg1) (A main_arg2) (A main_arg3) (A main_arg4)
      ∧ r.2.mem ((c.tc : Thread nD τ).loc main_v73) = resW (A main_arg0) (A main_arg1) (A main_arg2) (A main_arg3) (A main_arg5) (A main_arg6) (A main_arg7)
      ∧ r.2.mem ((c.tc : Thread nD τ).loc main_v74) = resK (A main_arg0) (A main_arg1) (A main_arg2) (A main_arg3) (A main_arg4) (A main_arg8) (A main_arg9) (A main_arg10) (A main_arg12)
      ∧ r.2.mem ((c.tc : Thread nD τ).loc main_v75) = resV (A main_arg0) (A main_arg1) (A main_arg2) (A main_arg3) (A main_arg4)
      ∧ r.2.mem ((c.tc : Thread nD τ).loc main_v76) = resA (A main_arg0) (A main_arg1) (A main_arg2) (A main_arg3) (A main_arg8) (A main_arg9) (A main_arg10)
      ∧ r.2.mem ((c.tc : Thread nD τ).loc main_v78) = resZ (A main_arg0) (A main_arg1) (A main_arg2) (A main_arg3) (A main_arg4)
      ∧ r.2.mem ((c.tc : Thread nD τ).loc main_v79) = resX (A main_arg0) (A main_arg2)
      ∧ r.2.mem ((c.tc : Thread nD τ).loc main_arg0) = A main_arg0
      ∧ r.2.mem ((c.tc : Thread nD τ).loc main_arg1) = A main_arg1
      ∧ r.2.mem ((c.tc : Thread nD τ).loc main_arg2) = A main_arg2
      ∧ r.2.mem ((c.tc : Thread nD τ).loc main_arg3) = A main_arg3
      ∧ r.2.mem ((c.tc : Thread nD τ).loc main_arg4) = A main_arg4
      ∧ r.2.mem ((c.tc : Thread nD τ).loc main_arg5) = A main_arg5
      ∧ r.2.mem ((c.tc : Thread nD τ).loc main_arg6) = A main_arg6
      ∧ r.2.mem ((c.tc : Thread nD τ).loc main_arg7) = A main_arg7
      ∧ r.2.mem ((c.tc : Thread nD τ).loc main_arg8) = A main_arg8
      ∧ r.2.mem ((c.tc : Thread nD τ).loc main_arg9) = A main_arg9
      ∧ r.2.mem ((c.tc : Thread nD τ).loc main_arg10) = A main_arg10
      ∧ r.2.mem ((c.tc : Thread nD τ).loc main_arg11) = A main_arg11
      ∧ r.2.mem ((c.tc : Thread nD τ).loc main_arg12) = A main_arg12
      ∧ r.2.mem ((c.tc : Thread nD τ).loc main_arg13) = A main_arg13 :=
  Value.run (F := Ideal) m ρ

end Cert.Reference8Ideal.Start

end
-- ==== Proof.StartArrays.lean ====
/-
  The start of the mixer, the kernel's way: each claimed array after the run.
-/
module

public import proofs.«01_k».proof.Proof.StartStaged
public import proofs.«01_k».proof.Proof.StartRef

@[expose] public section

set_option maxRecDepth 16384

noncomputable section

open Idealize.ShloMosaic Idealize.ShloMosaic.TcCoe Idealize.SL.Sem

namespace Cert.Kernel8Ideal.Start

open Cert.Kernel8Ideal Cert.Kernel8Ideal.Gen Cert.Rows Cert.Start
open Cert.Reference8Ideal.Start (rowsOf moved resR resW resK resV resA resZ resX resR_at resW_at resK_at resV_at resA_at resZ_at resX_at)

/-! ## What each block holds, of the arguments -/

variable (m : (ℓ : Loc nD τ sig) → Buf (Elt Ideal) ℓ) (c : Dev nD) (t : Fin cfg0.N) (i : Fin 256) (d : Fin 1024)

theorem xn_read : xn (blocks m c t) (ix2 i d) = rowsOf (argH m c) (argG m c) (rowOf t i) d :=
  (xn_at _ i d).trans (congrArg₂ (fun x g => nrm x g d) (funext fun j => h_read m c t i j) (gain_read m c t d))

theorem toward_read (n : Fin 6) : toward (blocks m c t) i n d = moved (argH m c) (argS m c) (argG m c) (argMix m c) n (rowOf t i) d :=
  toward_of (blocks m c t) i d _ _ (rowOf t) (256 * t.val) (by omega) (fun _ => rfl) (xn_read m c t)
    (fun i d h => (shift_read m c t i d).trans (spread_at _ _ _ h)) n _ (mix_read m c t n)

/-- A product of the moved rows with one of the four matrices. -/
theorem mat_sum (n : Fin 4) : ∑ j, toward (blocks m c t) i ⟨n.val, by omega⟩ j * (blocks m c t).x4 (ix3 n j d)
    = ∑ j, moved (argH m c) (argS m c) (argG m c) (argMix m c) ⟨n.val, by omega⟩ (rowOf t i) j * argW m c (ix3 n j d) :=
  Finset.sum_congr rfl fun j _ => congrArg₂ (· * ·) (toward_read m c t i j _) (mat_read m c t n j d)

theorem r_read : r (blocks m c t) (ix2 i d) = resR (argH m c) (argS m c) (argG m c) (argMix m c) (argW m c) (ix2 (rowOf t i) d) :=
  (r_at _ i d).trans ((mat_sum m c t i d 0).trans (resR_at _ _ _ _ _ _ _).symm)

theorem v_read : v (blocks m c t) (ix2 i d) = resV (argH m c) (argS m c) (argG m c) (argMix m c) (argW m c) (ix2 (rowOf t i) d) :=
  (v_at _ i d).trans ((mat_sum m c t i d 2).trans (resV_at _ _ _ _ _ _ _).symm)

theorem gz_read : gz (blocks m c t) (ix2 i d) = resZ (argH m c) (argS m c) (argG m c) (argMix m c) (argW m c) (ix2 (rowOf t i) d) :=
  (gz_at _ i d).trans ((congrArg (fun s => s * sgm s) ((z_at _ i d).trans (mat_sum m c t i d 3))).trans (resZ_at _ _ _ _ _ _ _).symm)

theorem lw_read : lw (blocks m c t) (ix2 i d)
    = resW (argH m c) (argS m c) (argG m c) (argMix m c) (argW0 m c) (argW1 m c) (argW2 m c) (ix2 (rowOf t i) d) := by
  rw [lw_at, resW_at]
  exact congrArg decay (congrArg₂ (· + ·) (decay₀_read m c t d) (Finset.sum_congr rfl fun e _ =>
    congrArg₂ (· * ·) (congrArg Ideal.tanh (Finset.sum_congr rfl fun j _ =>
      congrArg₂ (· * ·) (toward_read m c t i j 4) (down_read m c t j e).1)) (up_read m c t e d).1))

theorem a_read : a (blocks m c t) (ix2 i d)
    = resA (argH m c) (argS m c) (argG m c) (argMix m c) (argA0 m c) (argA1 m c) (argA2 m c) (ix2 (rowOf t i) d) := by
  rw [a_at, resA_at]
  exact congrArg sgm (congrArg₂ (· + ·) (rate₀_read m c t d) (Finset.sum_congr rfl fun e _ =>
    congrArg₂ (· * ·) (Finset.sum_congr rfl fun j _ =>
      congrArg₂ (· * ·) (toward_read m c t i j 5) (down_read m c t j e).2) (up_read m c t e d).2))

theorem k_read : k (blocks m c t) (ix2 i d)
    = resK (argH m c) (argS m c) (argG m c) (argMix m c) (argW m c) (argA0 m c) (argA1 m c) (argA2 m c) (argKa m c) (ix2 (rowOf t i) d) := by
  rw [k_at, resK_at, a_read, k₀_at]
  exact congrArg₂ (fun s g => s * (1 + (_ - 1) * g)) (mat_sum m c t i d 1) (weight_read m c t d)

/-! ## The arrays after the run -/

/-- The receptances. -/
theorem final_r : (dats m 0 c).arrAt 15 cfg0.N = resR (argH m c) (argS m c) (argG m c) (argMix m c) (argW m c) := by
  refine (dats m 0 c).arrAt_eq_of_covers 15 _ (by decide +kernel) fun t hf y => ?_
  blk_simp
  rw [after15, left_eq]
  idx_vars y
  have e : ((cfg0.win 15).blk t).view.emb (ix2 y0 y1 : S256x1024.Idx) = (ix2 (rowOf t y0) y1 : S1024x1024.Idx) := by
    blk_ext [idx t]
  refine Eq.trans ?_ (congrArg (resR (argH m c) (argS m c) (argG m c) (argMix m c) (argW m c)) e.symm)
  exact r_read m c t y0 y1

/-- The logarithms of the decays. -/
theorem final_lw : (dats m 0 c).arrAt 16 cfg0.N = resW (argH m c) (argS m c) (argG m c) (argMix m c) (argW0 m c) (argW1 m c) (argW2 m c) := by
  refine (dats m 0 c).arrAt_eq_of_covers 16 _ (by decide +kernel) fun t hf y => ?_
  blk_simp
  rw [after16, left_eq]
  idx_vars y
  have e : ((cfg0.win 16).blk t).view.emb (ix2 y0 y1 : S256x1024.Idx) = (ix2 (rowOf t y0) y1 : S1024x1024.Idx) := by
    blk_ext [idx t]
  refine Eq.trans ?_ (congrArg (resW (argH m c) (argS m c) (argG m c) (argMix m c) (argW0 m c) (argW1 m c) (argW2 m c)) e.symm)
  exact lw_read m c t y0 y1

/-- The keys. -/
theorem final_k : (dats m 0 c).arrAt 17 cfg0.N = resK (argH m c) (argS m c) (argG m c) (argMix m c) (argW m c) (argA0 m c) (argA1 m c) (argA2 m c) (argKa m c) := by
  refine (dats m 0 c).arrAt_eq_of_covers 17 _ (by decide +kernel) fun t hf y => ?_
  blk_simp
  rw [after17, left_eq]
  idx_vars y
  have e : ((cfg0.win 17).blk t).view.emb (ix2 y0 y1 : S256x1024.Idx) = (ix2 (rowOf t y0) y1 : S1024x1024.Idx) := by
    blk_ext [idx t]
  refine Eq.trans ?_ (congrArg (resK (argH m c) (argS m c) (argG m c) (argMix m c) (argW m c) (argA0 m c) (argA1 m c) (argA2 m c) (argKa m c)) e.symm)
  exact k_read m c t y0 y1

/-- The values. -/
theorem final_v : (dats m 0 c).arrAt 18 cfg0.N = resV (argH m c) (argS m c) (argG m c) (argMix m c) (argW m c) := by
  refine (dats m 0 c).arrAt_eq_of_covers 18 _ (by decide +kernel) fun t hf y => ?_
  blk_simp
  rw [after18, left_eq]
  idx_vars y
  have e : ((cfg0.win 18).blk t).view.emb (ix2 y0 y1 : S256x1024.Idx) = (ix2 (rowOf t y0) y1 : S1024x1024.Idx) := by
    blk_ext [idx t]
  refine Eq.trans ?_ (congrArg (resV (argH m c) (argS m c) (argG m c) (argMix m c) (argW m c)) e.symm)
  exact v_read m c t y0 y1

/-- The rates. -/
theorem final_a : (dats m 0 c).arrAt 20 cfg0.N = resA (argH m c) (argS m c) (argG m c) (argMix m c) (argA0 m c) (argA1 m c) (argA2 m c) := by
  refine (dats m 0 c).arrAt_eq_of_covers 20 _ (by decide +kernel) fun t hf y => ?_
  blk_simp
  rw [after20, left_eq]
  idx_vars y
  have e : ((cfg0.win 20).blk t).view.emb (ix2 y0 y1 : S256x1024.Idx) = (ix2 (rowOf t y0) y1 : S1024x1024.Idx) := by
    blk_ext [idx t]
  refine Eq.trans ?_ (congrArg (resA (argH m c) (argS m c) (argG m c) (argMix m c) (argA0 m c) (argA1 m c) (argA2 m c)) e.symm)
  exact a_read m c t y0 y1

/-- The gates. -/
theorem final_gz : (dats m 0 c).arrAt 22 cfg0.N = resZ (argH m c) (argS m c) (argG m c) (argMix m c) (argW m c) := by
  refine (dats m 0 c).arrAt_eq_of_covers 22 _ (by decide +kernel) fun t hf y => ?_
  blk_simp
  rw [after22, left_eq]
  idx_vars y
  have e : ((cfg0.win 22).blk t).view.emb (ix2 y0 y1 : S256x1024.Idx) = (ix2 (rowOf t y0) y1 : S1024x1024.Idx) := by
    blk_ext [idx t]
  refine Eq.trans ?_ (congrArg (resZ (argH m c) (argS m c) (argG m c) (argMix m c) (argW m c)) e.symm)
  exact gz_read m c t y0 y1

/-- The normed rows. -/
theorem final_xlast : (dats m 0 c).arrAt 23 cfg0.N = resX (argH m c) (argG m c) := by
  refine (dats m 0 c).arrAt_eq_of_covers 23 _ (by decide +kernel) fun t hf y => ?_
  blk_simp
  rw [after23, left_eq]
  idx_vars y
  have e : ((cfg0.win 23).blk t).view.emb (ix2 y0 y1 : S256x1024.Idx) = (ix2 (rowOf t y0) y1 : S1024x1024.Idx) := by
    blk_ext [idx t]
  refine Eq.trans ?_ (congrArg (resX (argH m c) (argG m c)) e.symm)
  exact (xn_read m c t y0 y1).trans (resX_at _ _ _ _).symm

set_option maxHeartbeats 2000000 in
/-- What a run of the kernel leaves. -/
theorem run (ρ : Dev nD → PrngReg) :
    θ_run defs (onTc (τ := τ) (main (F := Ideal))) ⟨m, fun _ => 0, ρ⟩ fun r => ∀ c : Dev nD,
      r.2.mem ((c.tc : Thread nD τ).loc main_v23_0) = resR (argH m c) (argS m c) (argG m c) (argMix m c) (argW m c)
      ∧ r.2.mem ((c.tc : Thread nD τ).loc main_v23_1) = resW (argH m c) (argS m c) (argG m c) (argMix m c) (argW0 m c) (argW1 m c) (argW2 m c)
      ∧ r.2.mem ((c.tc : Thread nD τ).loc main_v23_2) = resK (argH m c) (argS m c) (argG m c) (argMix m c) (argW m c) (argA0 m c) (argA1 m c) (argA2 m c) (argKa m c)
      ∧ r.2.mem ((c.tc : Thread nD τ).loc main_v23_3) = resV (argH m c) (argS m c) (argG m c) (argMix m c) (argW m c)
      ∧ r.2.mem ((c.tc : Thread nD τ).loc main_v23_5) = resA (argH m c) (argS m c) (argG m c) (argMix m c) (argA0 m c) (argA1 m c) (argA2 m c)
      ∧ r.2.mem ((c.tc : Thread nD τ).loc main_v23_7) = resZ (argH m c) (argS m c) (argG m c) (argMix m c) (argW m c)
      ∧ r.2.mem ((c.tc : Thread nD τ).loc main_v23_8) = resX (argH m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 15).trans (final_r m c),
    ((h c).1 16).trans (final_lw m c),
    ((h c).1 17).trans (final_k m c),
    ((h c).1 18).trans (final_v m c),
    ((h c).1 20).trans (final_a m c),
    ((h c).1 22).trans (final_gz m c),
    ((h c).1 23).trans (final_xlast m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

end Cert.Kernel8Ideal.Start

end
-- ==== Proof.StartClaims.lean ====
/-
  The claims of the start of the mixer for the sample: each program's run, put beside the other's.
-/
module

public import proofs.«01_k».proof.Defs
public import proofs.«01_k».proof.Proof.StartArrays
public import proofs.«01_k».proof.Proof.StartRun
public import proofs.«01_k».proof.Proof.Gen.Kernel8
public import proofs.«01_k».proof.Proof.Gen.Kernel8Ideal
public import proofs.«01_k».proof.Proof.Gen.Reference8Ideal

@[expose] public section

noncomputable section

open Idealize.ShloMosaic Idealize.SL.Sem

namespace Cert.Start.Claims

/-- The kernel terminates without a fault and leaves its arguments and every semaphore as they were. -/
theorem frame_kernel : Cert.quiescent_Kernel8 := fun m ρ _ => Cert.Kernel8.Start.frame m ρ

/-- The same of its idealization. -/
theorem frame_ideal : Cert.quiescent_Kernel8Ideal := fun m ρ _ => Cert.Kernel8Ideal.Start.frame m ρ

/-- The same of the reference, which declares no semaphore. -/
theorem frame_reference : Cert.quiescent_Reference8Ideal := fun m ρ _ =>
  (θ_run Cert.Reference8Ideal.defs _ _).mono
    (fun r h => ⟨fun c => (h c).2.2.2.2.2.2.2, sem_eq_zero_of_no_sems (by decide) r.2⟩)
    (Cert.Reference8Ideal.Start.run m ρ)

/-- The idealization is the kernel, with no operation replaced. -/
theorem preserves : Cert.preserves_Kernel8_Kernel8Ideal := trivial

/-- Over the extended reals the kernel's seven results are the reference's, from the same arguments. -/
theorem algebraic : Cert.algebraic_Kernel8Ideal_Reference8Ideal := by
  intro m ρ m' ρ' hpre hagree
  refine ⟨_, _, _, _, _, _, _, Cert.Kernel8Ideal.Start.run m ρ, ?_⟩
  refine (θ_run Cert.Reference8Ideal.defs _ _).mono (fun _ h c => ?_) (Cert.Reference8Ideal.Start.run m' ρ')
  obtain ⟨e1, e2, e3, e4, e5, e6, e7, e⟩ := h c
  obtain ⟨h0, h1, h2, h3, h4, h5, h6, h7, h8, h9, h10, h11, h12, h13⟩ := hagree c
  refine ⟨e1.trans ?_, e2.trans ?_, e3.trans ?_, e4.trans ?_, e5.trans ?_, e6.trans ?_, e7.trans ?_, e⟩
  · dsimp only; rw [h0, h1, h2, h3, h4]
  · dsimp only; rw [h0, h1, h2, h3, h5, h6, h7]
  · dsimp only; rw [h0, h1, h2, h3, h4, h8, h9, h10, h12]
  · dsimp only; rw [h0, h1, h2, h3, h4]
  · dsimp only; rw [h0, h1, h2, h3, h8, h9, h10]
  · dsimp only; rw [h0, h1, h2, h3, h4]
  · dsimp only; rw [h0, h2]

end Cert.Start.Claims

end
-- ==== Proof.lean ====
/-
  The certificate: the stick-breaking attention of the prompt, the layer's end after it, the projections before it, the
  end of the other mixer's layer, and for the sample the two ends, the projections and the other mixer's start run without a
  fault, and over the extended reals each computes its reference. The parts are proved under `Proof/`; this file puts them together.
-/
module

public import proofs.«01_k».proof.Defs
public import proofs.«01_k».proof.Proof.Claims
public import proofs.«01_k».proof.Proof.TailClaims
public import proofs.«01_k».proof.Proof.ProjClaims
public import proofs.«01_k».proof.Proof.NormTailClaims
public import proofs.«01_k».proof.Proof.SampleClaims
public import proofs.«01_k».proof.Proof.SampleNormTailClaims
public import proofs.«01_k».proof.Proof.StartClaims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.NormTail.Claims.facts_finite4, Cert.SampleNormTail.Claims.facts_finite7,
    Cert.Attn.Claims.frame_kernel, Cert.Attn.Claims.frame_ideal, Cert.Attn.Claims.frame_reference,
    Cert.Tail.Claims.frame_kernel, Cert.Tail.Claims.frame_ideal, Cert.Tail.Claims.frame_reference,
    Cert.Proj.Claims.frame_kernel, Cert.Proj.Claims.frame_ideal, Cert.Proj.Claims.frame_reference,
    Cert.NormTail.Claims.frame_kernel, Cert.NormTail.Claims.frame_ideal, Cert.NormTail.Claims.frame_ideal_pre,
    Cert.NormTail.Claims.frame_reference, Cert.NormTail.Claims.frame_reference_pre,
    Cert.SampleTail.Claims.frame_kernel, Cert.SampleTail.Claims.frame_ideal, Cert.SampleTail.Claims.frame_reference,
    Cert.SampleProj.Claims.frame_kernel, Cert.SampleProj.Claims.frame_ideal, Cert.SampleProj.Claims.frame_reference,
    Cert.SampleNormTail.Claims.frame_kernel, Cert.SampleNormTail.Claims.frame_ideal, Cert.SampleNormTail.Claims.frame_ideal_pre,
    Cert.SampleNormTail.Claims.frame_reference, Cert.SampleNormTail.Claims.frame_reference_pre,
    Cert.Start.Claims.frame_kernel, Cert.Start.Claims.frame_ideal, Cert.Start.Claims.frame_reference,
    Cert.Attn.Claims.preserves, Cert.Attn.Claims.algebraic,
    Cert.Tail.Claims.preserves, Cert.Tail.Claims.algebraic,
    Cert.Proj.Claims.preserves, Cert.Proj.Claims.algebraic,
    Cert.NormTail.Claims.preserves, Cert.NormTail.Claims.algebraic,
    Cert.SampleTail.Claims.preserves, Cert.SampleTail.Claims.algebraic,
    Cert.SampleProj.Claims.preserves, Cert.SampleProj.Claims.algebraic,
    Cert.SampleNormTail.Claims.preserves, Cert.SampleNormTail.Claims.algebraic,
    Cert.Start.Claims.preserves, Cert.Start.Claims.algebraic⟩

end Cert.Proof

end
